-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_scales [hPre_nonnegative_scales : Cert.Pre_nonnegative_scales.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_scales [hPre_nonnegative_scales : Cert.Pre_nonnegative_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nonnegative_scales [hKernelIdeal : Cert.KernelIdeal.Facts] [hPre_nonnegative_scales : Cert.Pre_nonnegative_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nonnegative_scales [hReferenceIdeal : Cert.ReferenceIdeal.Facts] [hPre_nonnegative_scales : Cert.Pre_nonnegative_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nonnegative_scales [hKernelIdeal : Cert.KernelIdeal.Facts] [hReferenceIdeal : Cert.ReferenceIdeal.Facts] [hPre_nonnegative_scales : Cert.Pre_nonnegative_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35_0) = v0 c
          ∧ r.2.mem ((c.tc : Thread Cert.ReferenceIdeal.nD Cert.ReferenceIdeal.τ).loc Cert.ReferenceIdeal.main_v35_1) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nonnegative_scales : Cert.Pre_nonnegative_scales.Facts),
    quiescent_Kernel (hKernel := hKernel)
    ∧ quiescent_KernelIdeal (hKernelIdeal := hKernelIdeal)
    ∧ quiescent_KernelIdeal_pre_nonnegative_scales (hKernelIdeal := hKernelIdeal) (hPre_nonnegative_scales := hPre_nonnegative_scales)
    ∧ quiescent_ReferenceIdeal (hReferenceIdeal := hReferenceIdeal)
    ∧ quiescent_ReferenceIdeal_pre_nonnegative_scales (hReferenceIdeal := hReferenceIdeal) (hPre_nonnegative_scales := hPre_nonnegative_scales)
    ∧ preserves_Kernel_KernelIdeal
    ∧ algebraic_KernelIdeal_ReferenceIdeal_pre_nonnegative_scales (hKernelIdeal := hKernelIdeal) (hReferenceIdeal := hReferenceIdeal) (hPre_nonnegative_scales := hPre_nonnegative_scales)
-- ==== Pre_nonnegative_scales.lean ====
abbrev S32768x5120 : Shape := ⟨2, ![32768, 5120]⟩
abbrev S32768 : Shape := ⟨1, ![32768]⟩
abbrev S32768x40 : Shape := ⟨2, ![32768, 40]⟩
abbrev S32768x1 : Shape := ⟨2, ![32768, 1]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S32768x40 : S_.BroadcastsInDim S32768x40 (![] : Fin 0 → Fin S32768x40.rank)
  reducesTo_S32768x40_S_d0_1 : S32768x40.ReducesTo [0, 1] S_

variable [Facts]

def fn {F : FTy → Type} [FloatOps F] (main_arg0 : FVec F S32768x5120 .fp8e5m2) (main_arg1 : FVec F S32768 .f32) (main_arg2 : FVec F S32768x5120 .fp8e4m3) (main_arg3 : FVec F S32768x40 .f32) (main_arg4 : FVec F S32768x1 .f32) (main_arg5 : IVec S32768x1 32) : IVec S_ 1 :=
  let main_cst : FVec F S_ .f32 := constant S_ .f32 0x00000000#32
  let main_v0 : FVec F S32768 .f32 := broadcastInDim S32768 ![] bcast_S_S32768 main_cst
  let main_v1 : IVec S32768 1 := cmpf .oge main_arg1 main_v0
  let main_c : IVec S_ 1 := constantI S_ 1 1#1
  let main_v2 : IVec S_ 1 := (fun x v => Host.reduce IntOp.andi x v reducesTo_S32768_S_d0 h_S_) main_v1 main_c
  let main_cst_0 : FVec F S_ .f32 := constant S_ .f32 0x00000000#32
  let main_v3 : FVec F S32768x40 .f32 := broadcastInDim S32768x40 ![] bcast_S_S32768x40 main_cst_0
  let main_v4 : IVec S32768x40 1 := cmpf .oge main_arg3 main_v3
  let main_cst_1 : FVec F S_ .f32 := constant S_ .f32 0x7F800000#32
  let main_v5 : FVec F S32768x40 .f32 := broadcastInDim S32768x40 ![] bcast_S_S32768x40 main_cst_1
  let main_v6 : IVec S32768x40 1 := cmpf .olt main_arg3 main_v5
  let main_v7 : IVec S32768x40 1 := andi main_v4 main_v6
  let main_c_2 : IVec S_ 1 := constantI S_ 1 1#1
  let main_v8 : IVec S_ 1 := (fun x v => Host.reduce IntOp.andi x v reducesTo_S32768x40_S_d0_1 h_S_) main_v7 main_c_2
  let main_v9 : IVec S_ 1 := andi main_v2 main_v8
  main_v9
-- ==== Kernel.lean ====
abbrev S32768x5120 : Shape := ⟨2, ![32768, 5120]⟩
abbrev S32768 : Shape := ⟨1, ![32768]⟩
abbrev S32768x40 : Shape := ⟨2, ![32768, 40]⟩
abbrev S32768x1 : Shape := ⟨2, ![32768, 1]⟩
abbrev S_ : Shape := ⟨0, ![]⟩
abbrev S128x1x256 : Shape := ⟨3, ![128, 1, 256]⟩
abbrev S40x32768 : Shape := ⟨2, ![40, 32768]⟩
abbrev S256x256 : Shape := ⟨2, ![256, 256]⟩
abbrev S256x5120 : Shape := ⟨2, ![256, 5120]⟩
abbrev S1x1x256 : Shape := ⟨3, ![1, 1, 256]⟩
abbrev S40x256 : Shape := ⟨2, ![40, 256]⟩
abbrev S2x256x256 : Shape := ⟨3, ![2, 256, 256]⟩
abbrev S1x256 : Shape := ⟨2, ![1, 256]⟩
abbrev S252x256 : Shape := ⟨2, ![252, 256]⟩
abbrev S128x256 : Shape := ⟨2, ![128, 256]⟩
abbrev S256 : Shape := ⟨1, ![256]⟩
abbrev S1x128x256 : Shape := ⟨3, ![1, 128, 256]⟩
abbrev S1x256x256 : Shape := ⟨3, ![1, 256, 256]⟩

abbrev nBuf : Space → Nat
  | .hbm => 92
  | .vmem => 18
  | .smem => 0
  | _ => 0

abbrev bufTy : (tb : Table) → Fin (tcTables nBuf tb) → BufTy
  | .hbm, ⟨0, _⟩ => ⟨S32768x5120, .fp8e5m2⟩
  | .hbm, ⟨1, _⟩ => ⟨S32768, .f32⟩
  | .hbm, ⟨2, _⟩ => ⟨S32768x5120, .fp8e4m3⟩
  | .hbm, ⟨3, _⟩ => ⟨S32768x40, .f32⟩
  | .hbm, ⟨4, _⟩ => ⟨S32768x1, .f32⟩
  | .hbm, ⟨5, _⟩ => ⟨S32768x1, .i32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i1⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S32768, .i32⟩
  | .hbm, ⟨17, _⟩ => ⟨S32768x1, .i32⟩
  | .hbm, ⟨18, _⟩ => ⟨S32768, .i32⟩
  | .hbm, ⟨19, _⟩ => ⟨S_, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768, .f32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S32768, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S32768, .f32⟩
  | .hbm, ⟨56, _⟩ => ⟨S_, .i32⟩
  | .hbm, ⟨57, _⟩ => ⟨S32768, .i32⟩
  | .hbm, ⟨58, _⟩ => ⟨S32768, .i1⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S32768, .i32⟩
  | .hbm, ⟨63, _⟩ => ⟨S32768x1, .i32⟩
  | .hbm, ⟨64, _⟩ => ⟨S32768x5120, .fp8e5m2⟩
  | .hbm, ⟨65, _⟩ => ⟨S128x1x256, .f32⟩
  | .hbm, ⟨66, _⟩ => ⟨S128x1x256, .f32⟩
  | .hbm, ⟨67, _⟩ => ⟨S40x32768, .f32⟩
  | .hbm, ⟨68, _⟩ => ⟨S256x256, .i32⟩
  | .hbm, ⟨69, _⟩ => ⟨S256x256, .i32⟩
  | .hbm, ⟨70, _⟩ => ⟨S_, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S256x256, .f32⟩
  | .hbm, ⟨75, _⟩ => ⟨S32768x5120, .fp8e5m2⟩
  | .hbm, ⟨76, _⟩ => ⟨S40x32768, .f32⟩
  | .hbm, ⟨77, _⟩ => ⟨S128x1x256, .f32⟩
  | .hbm, ⟨78, _⟩ => ⟨S32768, .f32⟩
  | .hbm, ⟨79, _⟩ => ⟨S_, .i32⟩
  | .hbm, ⟨80, _⟩ => ⟨S32768, .i32⟩
  | .hbm, ⟨81, _⟩ => ⟨S32768, .i1⟩
  | .hbm, ⟨82, _⟩ => ⟨S_, .i32⟩
  | .hbm, ⟨83, _⟩ => ⟨S32768, .i32⟩
  | .hbm, ⟨84, _⟩ => ⟨S32768, .i32⟩
  | .hbm, ⟨85, _⟩ => ⟨S32768, .i32⟩
  | .hbm, ⟨86, _⟩ => ⟨S32768x1, .i32⟩
  | .hbm, ⟨87, _⟩ => ⟨S32768, .f32⟩
  | .hbm, ⟨88, _⟩ => ⟨S32768x1, .f32⟩
  | .hbm, ⟨89, _⟩ => ⟨S32768x1, .f32⟩
  | .hbm, ⟨90, _⟩ => ⟨S32768x1, .f32⟩
  | .hbm, ⟨91, _⟩ => ⟨S32768x40, .f32⟩
  | .local _ .vmem, ⟨0, _⟩ => ⟨S256x5120, .fp8e5m2⟩
  | .local _ .vmem, ⟨1, _⟩ => ⟨S256x5120, .fp8e5m2⟩
  | .local _ .vmem, ⟨2, _⟩ => ⟨S256x5120, .fp8e4m3⟩
  | .local _ .vmem, ⟨3, _⟩ => ⟨S256x5120, .fp8e4m3⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S40x256, .f32⟩
  | .local _ .vmem, ⟨9, _⟩ => ⟨S40x256, .f32⟩
  | .local _ .vmem, ⟨10, _⟩ => ⟨S256x256, .f32⟩
  | .local _ .vmem, ⟨11, _⟩ => ⟨S256x5120, .fp8e5m2⟩
  | .local _ .vmem, ⟨12, _⟩ => ⟨S256x5120, .fp8e5m2⟩
  | .local _ .vmem, ⟨13, _⟩ => ⟨S40x256, .f32⟩
  | .local _ .vmem, ⟨14, _⟩ => ⟨S40x256, .f32⟩
  | .local _ .vmem, ⟨15, _⟩ => ⟨S1x1x256, .f32⟩
  | .local _ .vmem, ⟨16, _⟩ => ⟨S1x1x256, .f32⟩
  | .local _ .vmem, ⟨17, _⟩ => ⟨S2x256x256, .fp8e5m2⟩
  | _, _ => ⟨S32768x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev main_v42_2 : Ref sig .tc := ⟨.hbm, 77, rfl⟩
abbrev main_v43 : Ref sig .tc := ⟨.hbm, 78, rfl⟩
abbrev main_c_10 : Ref sig .tc := ⟨.hbm, 79, rfl⟩
abbrev main_v44 : Ref sig .tc := ⟨.hbm, 80, rfl⟩
abbrev main_v45 : Ref sig .tc := ⟨.hbm, 81, rfl⟩
abbrev main_c_11 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5120 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32768x5120 : Shape := ⟨2, ![32768, 5120]⟩
abbrev S32768 : Shape := ⟨1, ![32768]⟩
abbrev S32768x40 : Shape := ⟨2, ![32768, 40]⟩
abbrev S32768x1 : Shape := ⟨2, ![32768, 1]⟩
abbrev S_ : Shape := ⟨0, ![]⟩
abbrev S32768x40x128 : Shape := ⟨3, ![32768, 40, 128]⟩
abbrev S32768x40x1 : Shape := ⟨3, ![32768, 40, 1]⟩

abbrev nBuf : Space → Nat
  | .hbm => 83
  | .vmem => 8
  | .smem => 0
  | _ => 0

abbrev bufTy : (tb : Table) → Fin (tcTables nBuf tb) → BufTy
  | .hbm, ⟨0, _⟩ => ⟨S32768x5120, .fp8e5m2⟩
  | .hbm, ⟨1, _⟩ => ⟨S32768, .f32⟩
  | .hbm, ⟨2, _⟩ => ⟨S32768x5120, .fp8e4m3⟩
  | .hbm, ⟨3, _⟩ => ⟨S32768x40, .f32⟩
  | .hbm, ⟨4, _⟩ => ⟨S32768x1, .f32⟩
  | .hbm, ⟨5, _⟩ => ⟨S32768x1, .i32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i1⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S32768, .i32⟩
  | .hbm, ⟨17, _⟩ => ⟨S32768x1, .i32⟩
  | .hbm, ⟨18, _⟩ => ⟨S32768, .i32⟩
  | .hbm, ⟨19, _⟩ => ⟨S_, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768, .f32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S32768, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S32768, .f32⟩
  | .hbm, ⟨56, _⟩ => ⟨S_, .i32⟩
  | .hbm, ⟨57, _⟩ => ⟨S32768, .i32⟩
  | .hbm, ⟨58, _⟩ => ⟨S32768, .i1⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S32768, .i32⟩
  | .hbm, ⟨63, _⟩ => ⟨S32768x1, .i32⟩
  | .hbm, ⟨64, _⟩ => ⟨S32768x5120, .fp8e5m2⟩
  | .hbm, ⟨65, _⟩ => ⟨S32768x1, .f32⟩
  | .hbm, ⟨66, _⟩ => ⟨S32768x1, .f32⟩
  | .hbm, ⟨67, _⟩ => ⟨S32768x5120, .fp8e5m2⟩
  | .hbm, ⟨68, _⟩ => ⟨S32768x40, .f32⟩
  | .hbm, ⟨69, _⟩ => ⟨S32768x1, .f32⟩
  | .hbm, ⟨70, _⟩ => ⟨S32768, .f32⟩
  | .hbm, ⟨71, _⟩ => ⟨S_, .i32⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i32⟩
  | .hbm, ⟨77, _⟩ => ⟨S32768, .i32⟩
  | .hbm, ⟨78, _⟩ => ⟨S32768x1, .i32⟩
  | .hbm, ⟨79, _⟩ => ⟨S32768, .f32⟩
  | .hbm, ⟨80, _⟩ => ⟨S32768x1, .f32⟩
  | .hbm, ⟨81, _⟩ => ⟨S32768x1, .f32⟩
  | .hbm, ⟨82, _⟩ => ⟨S32768x1, .f32⟩
  | .local _ .vmem, ⟨0, _⟩ => ⟨S32768x5120, .fp8e5m2⟩
  | .local _ .vmem, ⟨1, _⟩ => ⟨S32768x1, .f32⟩
  | .local _ .vmem, ⟨2, _⟩ => ⟨S32768x5120, .fp8e4m3⟩
  | .local _ .vmem, ⟨3, _⟩ => ⟨S32768x40, .f32⟩
  | .local _ .vmem, ⟨4, _⟩ => ⟨S32768x1, .f32⟩
  | .local _ .vmem, ⟨5, _⟩ => ⟨S32768x5120, .fp8e5m2⟩
  | .local _ .vmem, ⟨6, _⟩ => ⟨S32768x40, .f32⟩
  | .local _ .vmem, ⟨7, _⟩ => ⟨S32768x1, .f32⟩
  | _, _ => ⟨S32768x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35_0 : Ref sig .tc := ⟨.hbm, 67, rfl⟩
abbrev main_v35_1 : Ref sig .tc := ⟨.hbm, 68, rfl⟩
abbrev main_v35_2 : Ref sig .tc := ⟨.hbm, 69, rfl⟩
abbrev main_v36 : Ref sig .tc := ⟨.hbm, 70, rfl⟩
abbrev main_c_9 : Ref sig .tc := ⟨.hbm, 71, rfl⟩
abbrev main_v37 : Ref sig .tc := ⟨.hbm, 72, rfl⟩
abbrev main_v38 : Ref sig .tc := ⟨.hbm, 73, rfl⟩
abbrev main_c_10 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x5120 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x5120 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scalar.lean ====
module

public import Idealize.ShloMosaic.PureOps.Ideal.Laws
public import Idealize.ShloMosaic.Lib.IdealHost
public import Mathlib.Analysis.SpecialFunctions.Log.Basic

@[expose] public section

namespace Cert.Proof

open Idealize.ShloMosaic

/-! # Facts about single extended reals -/

/-- The absolute value as the programs write it: the larger of a number and its negative. -/
theorem absE_mul (a b : EReal) : max (a * b) (-(a * b)) = max a (-a) * max b (-b) := by
  have pos : ∀ c : EReal, 0 ≤ c → max c (-c) = c := fun c hc =>
    max_eq_left (le_trans (by simpa using EReal.neg_le_neg_iff.mpr hc) hc)
  have neg : ∀ c : EReal, c ≤ 0 → max c (-c) = -c := fun c hc =>
    max_eq_right (le_trans hc (by simpa using EReal.neg_le_neg_iff.mpr hc))
  have key : ∀ c d : EReal, 0 ≤ c → 0 ≤ d → max (c * d) (-(c * d)) = c * d := fun c d hc hd =>
    pos _ (mul_nonneg hc hd)
  rcases le_total 0 a with ha | ha <;> rcases le_total 0 b with hb | hb
  · rw [pos a ha, pos b hb, key a b ha hb]
  · have hb' : 0 ≤ -b := by simpa using EReal.neg_le_neg_iff.mpr hb
    have h := key a (-b) ha hb'
    rw [pos a ha, neg b hb, ← h, mul_neg, neg_neg, max_comm]
  · have ha' : 0 ≤ -a := by simpa using EReal.neg_le_neg_iff.mpr ha
    have h := key (-a) b ha' hb
    rw [pos b hb, neg a ha, ← h, neg_mul, neg_neg, max_comm]
  · have hb' : 0 ≤ -b := by simpa using EReal.neg_le_neg_iff.mpr hb
    have ha' : 0 ≤ -a := by simpa using EReal.neg_le_neg_iff.mpr ha
    have h := key (-a) (-b) ha' hb'
    rw [neg b hb, neg a ha, ← h, neg_mul_neg]

theorem absE_nonneg (a : EReal) : 0 ≤ max a (-a) := by
  rcases le_total 0 a with h | h
  · exact le_max_of_le_left h
  · exact le_max_of_le_right (by simpa using EReal.neg_le_neg_iff.mpr h)

theorem absE_of_nonneg {a : EReal} (h : 0 ≤ a) : max a (-a) = a :=
  max_eq_left (le_trans (by simpa using EReal.neg_le_neg_iff.mpr h) h)

/-- The largest absolute value of a row scaled by `g` and by `s ≥ 0`: the scale can be taken after the maximum. -/
theorem absMax_scaled {n : ℕ} (hn : 0 < n) (x : Fin n → EReal) (g s : EReal) (hs : 0 ≤ s) :
    max g (-g) * ((Finset.univ : Finset (Fin n)).fold max ⊥ (fun k => max (x k) (-(x k))) * s)
      = (Finset.univ : Finset (Fin n)).fold max ⊥ (fun k => max (g * (x k * s)) (-(g * (x k * s)))) := by
  have mono : Monotone fun t : EReal => max g (-g) * (t * s) := fun t u h =>
    mul_le_mul_of_nonneg_left (mul_le_mul_of_nonneg_right h hs) (absE_nonneg g)
  have ne : (Finset.univ : Finset (Fin n)).Nonempty := ⟨⟨0, hn⟩, Finset.mem_univ _⟩
  have h := Finset.comp_sup_eq_sup_comp_of_nonempty (s := (Finset.univ : Finset (Fin n)))
    (f := fun k => max (x k) (-(x k))) mono ne
  refine h.trans ?_
  show Finset.univ.sup _ = Finset.univ.sup _
  refine congrArg _ (funext fun k => ?_)
  show max g (-g) * (max (x k) (-(x k)) * s) = _
  rw [absE_mul g, absE_mul (x k) s, absE_of_nonneg hs]

theorem absMax_nonneg {n : ℕ} (hn : 0 < n) (x : Fin n → EReal) :
    0 ≤ (Finset.univ : Finset (Fin n)).fold max ⊥ (fun k => max (x k) (-(x k))) :=
  le_trans (absE_nonneg (x ⟨0, hn⟩))
    (Finset.le_sup (f := fun k => max (x k) (-(x k))) (Finset.mem_univ (⟨0, hn⟩ : Fin n)))

/-- A sum times a finite nonnegative number is the sum of the products. -/
theorem sum_mul_nonneg {ι : Type} (S : Finset ι) (f : ι → EReal) (e : EReal) (h0 : 0 ≤ e) (ht : e ≠ ⊤) :
    (∑ i ∈ S, f i) * e = ∑ i ∈ S, f i * e := by
  classical
  induction S using Finset.induction_on with
  | empty => simp
  | insert a S ha ih =>
    rw [Finset.sum_insert ha, Finset.sum_insert ha, EReal.right_distrib_of_nonneg_of_ne_top h0 ht, ih]

/-! ## Powers of two -/

/-- A word that holds only an exponent field denotes a power of two. -/
theorem ofBits_pow2 (n : ℕ) (h1 : 1 ≤ n) (h2 : n ≤ 254) :
    Ideal.ofBits .f32 (BitVec.ofNat 32 n <<< 23) = (((2 : ℝ) ^ ((n : ℤ) - 127) : ℝ) : EReal) := by
  have n0 : n ≠ 0 := by omega
  have n255 : n ≠ 2 ^ 8 - 1 := by norm_num; omega
  have hw : (BitVec.ofNat 32 n <<< 23).toNat = n * 8388608 := by
    rw [BitVec.toNat_shiftLeft, BitVec.toNat_ofNat, Nat.shiftLeft_eq]; omega
  have e1 : (BitVec.ofNat 32 n <<< 23).extractLsb' (8 + 23) 1 = 0#1 := by
    apply BitVec.eq_of_toNat_eq
    rw [BitVec.extractLsb'_toNat, hw, Nat.shiftRight_eq_div_pow]; simp; omega
  have e2 : ((BitVec.ofNat 32 n <<< 23).extractLsb' 23 8).toNat = n := by
    rw [BitVec.extractLsb'_toNat, hw, Nat.shiftRight_eq_div_pow]; omega
  have e3 : ((BitVec.ofNat 32 n <<< 23).extractLsb' 0 23).toNat = 0 := by
    rw [BitVec.extractLsb'_toNat, hw, Nat.shiftRight_eq_div_pow]; omega
  show Ideal.ieee 8 23 _ = _
  unfold Ideal.ieee
  simp only [e1, e2, e3, if_neg n255, if_neg n0]
  have hz : (n : ℤ) - 127 = 23 + ((n : ℤ) - (2 ^ (8 - 1) - 1) - (23 : ℕ)) := by push_cast; ring
  have h23 : (2 : ℝ) ^ (23 : ℤ) = 8388608 := by norm_num
  rw [hz, zpow_add₀ (two_ne_zero (α := ℝ)) 23, h23]
  refine congrArg Real.toEReal ?_
  simp

/-- The same, the exponent given as a 32-bit word below its bias. -/
theorem ofBits_pow2_int (z : ℤ) (h1 : -126 ≤ z) (h2 : z ≤ 126) :
    Ideal.ofBits .f32 ((BitVec.ofInt 32 z + 127#32) <<< 23) = (((2 : ℝ) ^ z : ℝ) : EReal) := by
  have e : BitVec.ofInt 32 z + 127#32 = BitVec.ofNat 32 (z + 127).toNat := by
    have : BitVec.ofNat 32 (z + 127).toNat = BitVec.ofInt 32 (z + 127) := by
      rw [← BitVec.ofInt_natCast, Int.toNat_of_nonneg (by omega)]
    rw [this, BitVec.ofInt_add]; rfl
  rw [e, ofBits_pow2 _ (by omega) (by omega)]
  congr 2; omega

/-! ## The exponent -/

/-- How many of the 252 powers 2⁻¹²⁶ … 2¹²⁵ a number reaches. -/
noncomputable def powCount (q : EReal) : ℕ :=
  (Finset.univ.filter fun k : Fin 252 => ¬ q < (((2 : ℝ) ^ ((k.val : ℤ) - 126) : ℝ) : EReal)).card

/-- The exponent the quantiser takes: 0 at 0, else the least one whose power of two lies above, kept in the range of normal floats. -/
noncomputable def expo (q : EReal) : ℤ := open Classical in if q = 0 then 0 else (powCount q : ℤ) - 126

theorem powCount_le (q : EReal) : powCount q ≤ 252 := by
  unfold powCount
  exact (Finset.card_le_univ _).trans (by simp)

theorem expo_lower (q : EReal) : -126 ≤ expo q := by unfold expo; split <;> omega
theorem expo_upper (q : EReal) : expo q ≤ 126 := by have := powCount_le q; unfold expo; split <;> omega

theorem card_below (n : ℕ) (h : n ≤ 252) : (Finset.univ.filter fun k : Fin 252 => k.val < n).card = n := by
  rw [Fin.card_filter_val_lt]; omega

/-- A 32-bit sum of zeros and ones is the count of the ones, as a word. -/
theorem fold_words {ι : Type} (S : Finset ι) (p : ι → Prop) [DecidablePred p] :
    S.fold IntOp.addi 0#32 (fun k => if p k then 0#32 else 1#32) = BitVec.ofNat 32 (S.filter fun k => ¬ p k).card := by
  classical
  induction S using Finset.induction_on with
  | empty => rfl
  | insert a S ha ih =>
    rw [Finset.fold_insert ha, ih, Finset.filter_insert]
    by_cases h : p a
    · rw [if_pos h, if_neg (not_not.mpr h)]
      exact BitVec.zero_add _
    · rw [if_neg h, if_pos h, Finset.card_insert_of_notMem (fun hm => ha (Finset.mem_filter.1 hm).1), BitVec.ofNat_add,
        BitVec.add_comm]
      rfl

theorem log_two : Ideal.log (Ideal.ofBits .f32 0x40000000#32) = ((Real.log 2 : ℝ) : EReal) := by
  have h := ofBits_pow2 128 (by norm_num) (by norm_num)
  have e : (BitVec.ofNat 32 128 <<< 23) = 0x40000000#32 := by decide
  rw [e] at h
  rw [h, Ideal.log_coe, if_neg (by norm_num)]
  norm_num

/-- The exponent by the logarithm is the exponent by the count. -/
theorem expo_log (q : EReal) (h0 : 0 < q) :
    min (126 : EReal) (max (-126 : EReal) (Ideal.liftRound Int.floor (Ideal.div (Ideal.log q) ((Real.log 2 : ℝ) : EReal)) + 1))
      = (((powCount q : ℤ) - 126 : ℤ) : ℝ) := by
  have hl : Real.log 2 ≠ 0 := (Real.log_pos (by norm_num)).ne'
  rw [Ideal.div_coe hl]
  induction q using EReal.rec with
  | bot => exact absurd h0 (by simp)
  | top =>
    have hc : powCount ⊤ = 252 := by
      unfold powCount
      rw [Finset.filter_true_of_mem (fun k _ => not_top_lt)]; simp
    have hp : (0 : ℝ) < 1 / Real.log 2 := one_div_pos.mpr (Real.log_pos (by norm_num))
    rw [hc, Ideal.log_top, EReal.top_mul_coe_of_pos hp, Ideal.liftRound_top, EReal.top_add_of_ne_bot (by decide), max_eq_right le_top, min_eq_left le_top]
    norm_num
    rfl
  | coe r =>
    have hr : 0 < r := by simpa using h0
    have hc : (powCount (r : EReal) : ℤ) = min 252 (max 0 (⌊Real.log r * (1 / Real.log 2)⌋ + 127)) := by
      set e := ⌊Real.log r * (1 / Real.log 2)⌋ with he
      have hcard : powCount (r : EReal) = (min 252 (max 0 (e + 127))).toNat := by
        rw [← card_below (min 252 (max 0 (e + 127))).toNat (by omega)]
        unfold powCount
        congr 1
        ext k
        simp only [Finset.mem_filter, Finset.mem_univ, true_and, EReal.coe_lt_coe_iff, not_lt]
        have hk := k.isLt
        have hz : ((2 : ℝ) ^ ((k.val : ℤ) - 126) ≤ r) ↔ (k.val : ℤ) - 126 ≤ e := by
          rw [he, Int.le_floor, mul_one_div, le_div_iff₀ (Real.log_pos (by norm_num)),
            ← Real.log_zpow, Real.log_le_log_iff (by positivity) hr]
        rw [hz]; omega
      rw [hcard]; omega
    rw [Ideal.log_coe, if_neg (not_le.mpr hr), ← EReal.coe_mul, Ideal.liftRound_coe, hc]
    set e := ⌊Real.log r * (1 / Real.log 2)⌋
    have hone : ((e : ℝ) : EReal) + 1 = (((e + 1 : ℤ) : ℝ) : EReal) := by push_cast; rfl
    have hm : (-126 : EReal) = (((-126 : ℤ) : ℝ) : EReal) := by norm_num; rfl
    have hm' : (126 : EReal) = (((126 : ℤ) : ℝ) : EReal) := by norm_num; rfl
    rw [hone, hm, hm', ← EReal.coe_strictMono.monotone.map_max, ← EReal.coe_strictMono.monotone.map_min]
    congr 1
    rw [← Int.cast_max, ← Int.cast_min]
    congr 1
    omega

end Cert.Proof

end
-- ==== Proof.Block.lean ====
module

public import proofs.«01_k».proof.Proof.Gen.KernelIdeal.Skeleton
public import proofs.«01_k».proof.Proof.Scalar
public import Idealize.ShloMosaic.Lib.Pipeline.ValueKit
public import Idealize.ShloMosaic.Lib.Pipeline.ReadBack

@[expose] public section

set_option maxRecDepth 16384

namespace Cert.KernelIdeal.Gen
open Idealize.ShloMosaic Idealize.ShloMosaic.TcCoe Idealize.ShloMosaic.Tactic
open Idealize.ShloMosaic.Pipeline
open Cert.Proof

/-! # What one block of 128 columns computes -/

/-- The number whose exponent the quantiser takes, from the gate, the scale and the column of codes. -/
noncomputable def quant (g s : EReal) (x : Fin 128 → EReal) : EReal :=
  max g (-g) * ((Finset.univ : Finset (Fin 128)).fold max ⊥ (fun k => max (x k) (-(x k))) * s) * Ideal.ofBits .f32 0x37924925#32

/-- The exponents of 256 columns, as words. -/
noncomputable def exW (v1 v3 : FVec Ideal S1x256 .f32) (xh : FVec Ideal S128x256 .f32) : IVec S1x256 32 :=
  have v23 : FVec Ideal S128x256 .f32 := absf xh
  have v24 : FVec Ideal S256 .f32 := multiReduction .maximumf [0] S256 v23 0xFF800000#32 reduces_S128x256_S256 (.inl rfl) rfl
  have v25 : FVec Ideal S1x256 .f32 := shapeCast S1x256 v24 shapeCasts_S256_S1x256
  have v26 : FVec Ideal S1x256 .f32 := absf v1
  have v27 : FVec Ideal S1x256 .f32 := mulf v25 v3
  have v28 : FVec Ideal S1x256 .f32 := mulf v26 v27
  have v29 : FVec Ideal S1x256 .f32 := broadcast S1x256 (Scalar.ofBits .f32 0x37924925#32)
  have v30 : FVec Ideal S1x256 .f32 := mulf v28 v29
  have v31 : FVec Ideal S1x256 .f32 := broadcast S1x256 (Scalar.ofBits .f32 0x00000000#32)
  have v32 : IVec S1x256 1 := cmpf .oeq v30 v31
  have v33 : FVec Ideal S252x256 .f32 := broadcastTo S252x256 v30 broadcasts_S1x256_S252x256
  have v34 : IVec S252x256 1 := cmpf .olt v33 (k0_pay7 (F := Ideal))
  k0_pay17 v32 v34 1#32 k0_pay16

/-- The scales of 256 columns. -/
noncomputable def sclW (v1 v3 : FVec Ideal S1x256 .f32) (xh : FVec Ideal S128x256 .f32) : FVec Ideal S1x256 .f32 :=
  bitcastToFloat .f32 (shli (addi (exW v1 v3 xh) (broadcast S1x256 127#32)) (broadcast S1x256 23#32))

/-- The codes of 256 columns. -/
noncomputable def codeW (v1 v3 : FVec Ideal S1x256 .f32) (xh : FVec Ideal S128x256 .f32) : FVec Ideal S1x128x256 .fp8e5m2 :=
  have v51 : IVec S1x256 32 := subi (broadcast S1x256 0#32) (exW v1 v3 xh)
  have v53 : IVec S1x256 32 := addi v51 (broadcast S1x256 127#32)
  have v55 : IVec S1x256 32 := shli v53 (broadcast S1x256 23#32)
  have v56 : FVec Ideal S1x256 .f32 := bitcastToFloat .f32 v55
  have v58 : FVec Ideal S1x256 .f32 := mulf v1 (mulf v3 v56)
  have v60 : FVec Ideal S128x256 .f32 := mulf xh (broadcastTo S128x256 v58 broadcasts_S1x256_S128x256)
  have v62 : FVec Ideal S128x256 .f32 := maximumf (broadcast S128x256 (Scalar.ofBits .f32 0xC7600000#32)) v60
  have v64 : FVec Ideal S128x256 .f32 := minimumf (broadcast S128x256 (Scalar.ofBits .f32 0x47600000#32)) v62
  shapeCast S1x128x256 (truncf .fp8e5m2 v64 bitsLt_fp8e5m2_f32) shapeCasts_S128x256_S1x128x256

theorem ofBits_bot : Ideal.ofBits .f32 0xFF800000#32 = ⊥ := by
  simp [Ideal.ofBits, Ideal.ieee]

theorem eye_sum (eye : Vec Ideal S256x256 .f32) (he : ∀ i j, eye (ix2 i j) = if i = j then 1 else 0) (i : Fin 256)
    (f : Fin 256 → EReal) : ∑ k : Fin 256, eye (ix2 i k) * f k = f i := by
  rw [Finset.sum_eq_single i]
  · rw [he, if_pos rfl, one_mul]
  · intro k _ hk
    rw [he, if_neg (Ne.symm hk), zero_mul]
  · intro h; exact absurd (Finset.mem_univ _) h

theorem turn_apply (eye : Vec Ideal S256x256 .f32) (he : ∀ i j, eye (ix2 i j) = if i = j then 1 else 0)
    (x : Vec Ideal S256x256 .fp8e5m2) (i j : Fin 256) :
    k0_pay29 (k0_pay6 eye) x (ix2 i j) = x (ix2 j i) := by
  unfold k0_pay29 k0_pay6
  dsimp only
  pointwise
  exact eye_sum eye he i fun k => x (ix2 j k)

theorem turn_apply' (eye : Vec Ideal S256x256 .f32) (he : ∀ i j, eye (ix2 i j) = if i = j then 1 else 0)
    (x : Vec Ideal S256x256 .fp8e4m3) (i j : Fin 256) :
    k0_pay30 (k0_pay6 eye) x (ix2 i j) = x (ix2 j i) := by
  unfold k0_pay30 k0_pay6
  dsimp only
  pointwise
  exact eye_sum eye he i fun k => x (ix2 j k)

/-- The power of two the kernel compares with in row `k` of its table. -/
theorem table_word (k : Fin 252) :
    Ideal.ofBits .f32 (IntOp.shli ArithUnit.vector (IntOp.addi (IntOp.subi (BitVec.ofNat 32 k) 126#32) 127#32) 23#32)
      = (((2 : ℝ) ^ ((k.val : ℤ) - 126) : ℝ) : EReal) := by
  have e : IntOp.shli ArithUnit.vector (IntOp.addi (IntOp.subi (BitVec.ofNat 32 k) 126#32) 127#32) 23#32 = BitVec.ofNat 32 (k.val + 1) <<< 23 := by
    revert k; decide
  rw [e, ofBits_pow2 _ (by omega) (by omega)]
  congr 2
  push_cast; ring

theorem exW_apply (v1 v3 : FVec Ideal S1x256 .f32) (xh : FVec Ideal S128x256 .f32) (j : Fin 256) :
    exW v1 v3 xh (ix2 0 j) = BitVec.ofInt 32 (expo (quant (v1 (ix2 0 j)) (v3 (ix2 0 j)) fun k => xh (ix2 k j))) := by
  unfold exW k0_pay17 k0_pay16 k0_pay7
  dsimp only
  pointwise
  simp only [Ideal.absf_def, ofBits_bot, table_word]
  change (if quant (v1 (ix2 0 j)) (v3 (ix2 0 j)) (fun k => xh (ix2 k j)) = 0 then 0#32
    else IntOp.subi (Finset.fold IntOp.addi 0#32 (fun k : Fin 252 =>
      if quant (v1 (ix2 0 j)) (v3 (ix2 0 j)) (fun k => xh (ix2 k j)) < _ then 0#32 else 1#32) Finset.univ) 126#32) = _
  generalize quant (v1 (ix2 0 j)) (v3 (ix2 0 j)) (fun k => xh (ix2 k j)) = q
  rw [fold_words]
  unfold expo
  by_cases h : q = 0
  · rw [if_pos h, if_pos h]; rfl
  · rw [if_neg h, if_neg h, sub_eq_add_neg, BitVec.ofInt_add]
    have hc : (Finset.univ.filter fun k : Fin 252 => ¬ q < (((2 : ℝ) ^ ((k.val : ℤ) - 126) : ℝ) : EReal)).card = powCount q := rfl
    rw [hc, BitVec.ofInt_natCast]
    show BitVec.ofNat 32 (powCount q) - 126#32 = _
    rw [BitVec.sub_eq_add_neg]
    rfl

theorem sclW_apply (v1 v3 : FVec Ideal S1x256 .f32) (xh : FVec Ideal S128x256 .f32) (j : Fin 256) :
    sclW v1 v3 xh (ix2 0 j)
      = (((2 : ℝ) ^ expo (quant (v1 (ix2 0 j)) (v3 (ix2 0 j)) fun k => xh (ix2 k j)) : ℝ) : EReal) := by
  unfold sclW
  pointwise
  rw [exW_apply]
  exact ofBits_pow2_int _ (expo_lower _) (expo_upper _)

theorem codeW_apply (v1 v3 : FVec Ideal S1x256 .f32) (xh : FVec Ideal S128x256 .f32) (i : Fin 128) (j : Fin 256) :
    codeW v1 v3 xh (ix3 0 i j)
      = min (Ideal.ofBits .f32 0x47600000#32) (max (Ideal.ofBits .f32 0xC7600000#32) (xh (ix2 i j) * (v1 (ix2 0 j) * (v3 (ix2 0 j)
        * (((2 : ℝ) ^ (-expo (quant (v1 (ix2 0 j)) (v3 (ix2 0 j)) fun k => xh (ix2 k j))) : ℝ) : EReal))))) := by
  unfold codeW
  pointwise
  rw [exW_apply, ← ofBits_pow2_int _ (by have := expo_upper; exact neg_le_neg (this _)) (by have := expo_lower; exact neg_le.mp (this _)),
    BitVec.ofInt_neg]
  rw [← BitVec.zero_sub]
  rfl

theorem dot_step_apply (acc : FVec Ideal S1x256 .f32) (xh yh : FVec Ideal S128x256 .f32) (e : Vec Ideal S1x256 .f32) (j : Fin 256) :
    k0_pay20 acc xh yh e (ix2 0 j) = acc (ix2 0 j) + (∑ k : Fin 128, xh (ix2 k j) * yh (ix2 k j)) * e (ix2 0 j) := by
  unfold k0_pay20
  pointwise

/-! ## The tiles in place -/

theorem cols_inb (o : ℕ) (ho : o + 256 ≤ 5120) : ∀ a, (![0, o] : Fin 2 → Nat) a + S256x256.size a ≤ S256x5120.size a := by
  intro a
  match a with
  | 0 => exact le_refl 256
  | 1 => exact ho

theorem rows_slice (h : ℕ) (hh : h + 128 ≤ 256) : S256x256.Slices ![h, 0] S128x256 := by
  refine ⟨rfl, fun a => ?_⟩
  match a with
  | 0 => exact hh
  | 1 => exact le_refl 256

/-- 128 of the transposed columns: those from `o + h` on of the e5m2 operand. -/
noncomputable def halfT (eye : Vec Ideal S256x256 .f32) (X : Vec Ideal S256x5120 .fp8e5m2) (o h : ℕ) (ho : o + 256 ≤ 5120)
    (hh : h + 128 ≤ 256) : FVec Ideal S128x256 .f32 :=
  extractStridedSlice S128x256 ![h, 0] (k0_pay29 (k0_pay6 eye) (View.ld X (Rect.unit ![0, o] S256x256.size (cols_inb o ho)))) (rows_slice h hh)

/-- The same of the e4m3 operand. -/
noncomputable def halfT' (eye : Vec Ideal S256x256 .f32) (X : Vec Ideal S256x5120 .fp8e4m3) (o h : ℕ) (ho : o + 256 ≤ 5120)
    (hh : h + 128 ≤ 256) : FVec Ideal S128x256 .f32 :=
  extractStridedSlice S128x256 ![h, 0] (k0_pay30 (k0_pay6 eye) (View.ld X (Rect.unit ![0, o] S256x256.size (cols_inb o ho)))) (rows_slice h hh)

/-- Column `k` of block `b`. -/
def col (b : ℕ) (hb : b < 40) (k : Fin 128) : Fin 5120 := ⟨128 * b + k.val, by omega⟩

theorem rows_slice_apply (Z : FVec Ideal S256x256 .f32) (h : ℕ) (hh : h + 128 ≤ 256) (k : Fin 128) (r : Fin 256) :
    extractStridedSlice S128x256 ![h, 0] Z (rows_slice h hh) (ix2 k r) = Z (ix2 ⟨h + k.val, by omega⟩ r) := by
  refine congrArg Z (funext fun a => Fin.ext ?_)
  match a with
  | 0 => rfl
  | 1 => exact Nat.zero_add _

theorem cols_apply {e : EltTy} (X : S256x5120.Idx → Elt Ideal e) (o h : ℕ) (ho : o + 256 ≤ 5120) (r j : Fin 256) (c : Fin 5120)
    (hc : c.val = o + j.val) :
    View.ld X (Rect.unit (s := S256x5120) ![0, o] S256x256.size (cols_inb o ho)) (ix2 r j) = X (ix2 r c) := by
  refine View.ld_unit_apply_of _ _ _ _ _ _ fun a => ?_
  match a with
  | 0 => exact (Nat.zero_add _).symm
  | 1 => exact hc

theorem halfT_apply (eye : Vec Ideal S256x256 .f32) (he : ∀ i j, eye (ix2 i j) = if i = j then 1 else 0)
    (X : Vec Ideal S256x5120 .fp8e5m2) (o h : ℕ) (ho hh) (k : Fin 128) (r : Fin 256) (c : Fin 5120) (hc : c.val = o + h + k) :
    halfT eye X o h ho hh (ix2 k r) = X (ix2 r c) := by
  unfold halfT
  rw [rows_slice_apply, turn_apply eye he]
  · exact cols_apply X o h ho r _ c (hc.trans (Nat.add_assoc _ _ _))
  · exact hh

theorem halfT'_apply (eye : Vec Ideal S256x256 .f32) (he : ∀ i j, eye (ix2 i j) = if i = j then 1 else 0)
    (X : Vec Ideal S256x5120 .fp8e4m3) (o h : ℕ) (ho hh) (k : Fin 128) (r : Fin 256) (c : Fin 5120) (hc : c.val = o + h + k) :
    halfT' eye X o h ho hh (ix2 k r) = X (ix2 r c) := by
  unfold halfT'
  rw [rows_slice_apply, turn_apply' eye he]
  · exact cols_apply X o h ho r _ c (hc.trans (Nat.add_assoc _ _ _))
  · exact hh

/-- Two halves of 128 rows stored one below the other, read as one slab. -/
noncomputable def stack (w0 w1 : FVec Ideal S1x128x256 .fp8e5m2) : Vec Ideal S1x256x256 .fp8e5m2 := fun j =>
  if h : (j 1).val < 128 then w0 (ix3 0 ⟨(j 1).val, h⟩ (j 2))
  else w1 (ix3 0 ⟨(j 1).val - 128, by have : (j 1).val < 256 := (j 1).isLt; omega⟩ (j 2))

theorem readCov_two {sg : RefSig} {κ : Kind} {sp : Space} (v : View sg κ sp S2x256x256 .fp8e5m2) (p : ℕ) (i1 i0 i)
    (w0 w1 : FVec Ideal S1x128x256 .fp8e5m2) (L : List (View.Piece (Elt Ideal) S2x256x256 .fp8e5m2)) :
    v.readCov (⟨Rect.unit (s := S2x256x256) ![p, 128, 0] (no_index S1x128x256.size) i1, w1⟩
        :: ⟨Rect.unit (s := S2x256x256) ![p, 0, 0] (no_index S1x128x256.size) i0, w0⟩ :: L)
      (Rect.unit (s := S2x256x256) ![p, 0, 0] (no_index S1x256x256.size) i).toLoadRect = stack w0 w1 := by
  rw [View.readCov_eq_canon']
  funext j
  have hj0 : (j 0).val < 1 := (j 0).isLt
  have hj1 : (j 1).val < 256 := (j 1).isLt
  unfold stack
  by_cases h : (j 1).val < 128
  · rw [dif_pos h, View.canon_cons_of_not_mem]
    · have e : (Rect.unit (s := S2x256x256) ![p, 0, 0] S1x256x256.size i).toLoadRect.idx j
          = (Rect.unit (s := S2x256x256) ![p, 0, 0] S1x128x256.size i0).emb (ix3 0 ⟨(j 1).val, h⟩ (j 2)) := by
        refine funext fun a => Fin.ext ?_
        rw [ValueKit.rect_emb_unit_val]
        refine (Rect.idx_unit_val (s := S2x256x256) _ _ _ _ _).trans ?_
        match a with
        | 0 => exact congrArg (p + ·) (Nat.lt_one_iff.mp hj0)
        | 1 => rfl
        | 2 => rfl
      rw [e]
      exact View.canon_cons_emb _ _ _ _
    · intro hm
      have h1 := (((Rect.mem_set_unit (s := S2x256x256) (inb := i1)).mp hm) 1).1
      have h2 : ((Rect.unit (s := S2x256x256) ![p, 0, 0] S1x256x256.size i).toLoadRect.idx j 1).val = 0 + (j 1).val :=
        Rect.idx_unit_val (s := S2x256x256) _ _ _ _ _
      have h3 : 128 ≤ ((Rect.unit (s := S2x256x256) ![p, 0, 0] S1x256x256.size i).toLoadRect.idx j 1).val := h1
      omega
  · rw [dif_neg h]
    have e : (Rect.unit (s := S2x256x256) ![p, 0, 0] S1x256x256.size i).toLoadRect.idx j
        = (Rect.unit (s := S2x256x256) ![p, 128, 0] S1x128x256.size i1).emb (ix3 0 ⟨(j 1).val - 128, by omega⟩ (j 2)) := by
      refine funext fun a => Fin.ext ?_
      rw [ValueKit.rect_emb_unit_val]
      refine (Rect.idx_unit_val (s := S2x256x256) _ _ _ _ _).trans ?_
      match a with
      | 0 => exact congrArg (p + ·) (Nat.lt_one_iff.mp hj0)
      | 1 => show 0 + (j 1).val = 128 + ((j 1).val - 128); omega
      | 2 => rfl
    rw [e]
    exact View.canon_cons_emb _ _ _ _

/-! ## The three results of a grid point, at an index -/

/-- The number the quantiser takes the exponent of, at row `r` of the point and block `b`. -/
noncomputable def quantAt (g s : Vec Ideal S1x1x256 .f32) (X : Vec Ideal S256x5120 .fp8e5m2) (r : Fin 256) (b : ℕ) (hb : b < 40) : EReal :=
  quant (g (ix3 0 0 r)) (s (ix3 0 0 r)) fun k => X (ix2 r (col b hb k))

/-- The scale of block `b` in row `r`. -/
noncomputable def scaleAt (g s : Vec Ideal S1x1x256 .f32) (X : Vec Ideal S256x5120 .fp8e5m2) (b : Fin 40) (r : Fin 256) : EReal :=
  (((2 : ℝ) ^ expo (quantAt g s X r b.val b.isLt) : ℝ) : EReal)

/-- The code in row `r`, column `c`. -/
noncomputable def codeAt (g s : Vec Ideal S1x1x256 .f32) (X : Vec Ideal S256x5120 .fp8e5m2) (r : Fin 256) (c : Fin 5120) : EReal :=
  min (Ideal.ofBits .f32 0x47600000#32) (max (Ideal.ofBits .f32 0xC7600000#32) (X (ix2 r c) * (g (ix3 0 0 r) * (s (ix3 0 0 r)
    * (((2 : ℝ) ^ (-expo (quantAt g s X r (c.val / 128) (by omega))) : ℝ) : EReal)))))

theorem gate_apply (g : Vec Ideal S1x1x256 .f32) (r : Fin 256) : k0_pay4 g (ix2 0 r) = g (ix3 0 0 r) := by
  unfold k0_pay4
  pointwise

theorem factor_apply (g : Vec Ideal S1x1x256 .f32) (r : Fin 256) : k0_pay5 g (ix2 0 r) = g (ix3 0 0 r) := by
  unfold k0_pay5
  pointwise

theorem scale_row (g s : Vec Ideal S1x1x256 .f32) (eye : Vec Ideal S256x256 .f32) (he : ∀ i j, eye (ix2 i j) = if i = j then 1 else 0)
    (X : Vec Ideal S256x5120 .fp8e5m2) (b : Fin 40) (r : Fin 256) :
    sclW (k0_pay4 g) (k0_pay5 s) (halfT eye X (256 * (b.val / 2)) (128 * (b.val % 2)) (by omega) (by omega)) (ix2 0 r) = scaleAt g s X b r := by
  rw [sclW_apply, gate_apply, factor_apply]
  unfold scaleAt quantAt
  refine congrArg (fun f => (((2 : ℝ) ^ expo (quant _ _ f) : ℝ) : EReal)) (funext fun k => ?_)
  exact halfT_apply eye he X _ _ _ _ k r (col b.val b.isLt k) (by show 128 * b.val + k.val = _; omega)

theorem scale_tile (g s : Vec Ideal S1x1x256 .f32) (eye : Vec Ideal S256x256 .f32) (he : ∀ i j, eye (ix2 i j) = if i = j then 1 else 0)
    (X : Vec Ideal S256x5120 .fp8e5m2) (b : ℕ) (hb : b < 40) (x : S1x256.Idx) (y : S40x256.Idx) (h0 : (y 0).val = b + (x 0).val)
    (h1 : (y 1).val = (x 1).val) :
    sclW (k0_pay4 g) (k0_pay5 s) (halfT eye X (256 * (b / 2)) (128 * (b % 2)) (by omega) (by omega)) x = scaleAt g s X (y 0) (y 1) := by
  have hx0 : (x 0).val < 1 := (x 0).isLt
  obtain rfl : b = (y 0).val := by omega
  have e : x = ix2 0 (y 1) := by
    refine funext fun a => Fin.ext ?_
    match a with
    | 0 => exact Nat.lt_one_iff.mp hx0
    | 1 => exact h1.symm
  exact (congrArg (sclW _ _ _) e).trans (scale_row g s eye he X (y 0) (y 1))

theorem code_half (g s : Vec Ideal S1x1x256 .f32) (eye : Vec Ideal S256x256 .f32) (he : ∀ i j, eye (ix2 i j) = if i = j then 1 else 0)
    (X : Vec Ideal S256x5120 .fp8e5m2) (o : ℕ) (ho : o + 256 ≤ 5120) (ho' : o % 256 = 0) (h : ℕ) (hh : h + 128 ≤ 256) (hm : h % 128 = 0)
    (i : Fin 128) (r : Fin 256) (c : Fin 5120) (hc : c.val = o + h + i.val) :
    codeW (k0_pay4 g) (k0_pay5 s) (halfT eye X o h ho hh) (ix3 0 i r) = codeAt g s X r c := by
  rw [codeW_apply, gate_apply, factor_apply, halfT_apply eye he X o h ho hh i r c hc]
  unfold codeAt quantAt
  refine congrArg (fun f => min _ (max _ (X (ix2 r c) * (_ * (_ * (((2 : ℝ) ^ (-expo (quant _ _ f)) : ℝ) : EReal)))))) (funext fun k => ?_)
  exact halfT_apply eye he X _ _ _ _ k r (col (c.val / 128) _ k) (by show 128 * (c.val / 128) + k.val = _; omega)

theorem turn_back (eye : Vec Ideal S256x256 .f32) (he : ∀ i j, eye (ix2 i j) = if i = j then 1 else 0)
    (w : Vec Ideal S1x256x256 .fp8e5m2) (r j : Fin 256) : k0_pay28 (k0_pay6 eye) w (ix2 r j) = w (ix3 0 j r) := by
  unfold k0_pay28 k0_pay6
  pointwise
  exact eye_sum eye he r fun k => w (ix3 0 j k)

theorem code_row (g s : Vec Ideal S1x1x256 .f32) (eye : Vec Ideal S256x256 .f32) (he : ∀ i j, eye (ix2 i j) = if i = j then 1 else 0)
    (X : Vec Ideal S256x5120 .fp8e5m2) (o : ℕ) (ho : o + 256 ≤ 5120) (ho' : o % 256 = 0) (r j : Fin 256) (c : Fin 5120)
    (hc : c.val = o + j.val) :
    k0_pay28 (k0_pay6 eye) (stack (codeW (k0_pay4 g) (k0_pay5 s) (halfT eye X o 0 ho (by omega)))
      (codeW (k0_pay4 g) (k0_pay5 s) (halfT eye X o 128 ho (by omega)))) (ix2 r j) = codeAt g s X r c := by
  rw [turn_back eye he]
  unfold stack
  by_cases hlt : j.val < 128
  · exact (dif_pos hlt).trans (code_half g s eye he X o ho ho' 0 _ rfl ⟨j.val, hlt⟩ r c (by simpa using hc))
  · exact (dif_neg hlt).trans (code_half g s eye he X o ho ho' 128 _ rfl ⟨j.val - 128, by omega⟩ r c
      (by show c.val = o + 128 + (j.val - 128); omega))

theorem code_tile (g s : Vec Ideal S1x1x256 .f32) (eye : Vec Ideal S256x256 .f32) (he : ∀ i j, eye (ix2 i j) = if i = j then 1 else 0)
    (X : Vec Ideal S256x5120 .fp8e5m2) (o : ℕ) (ho : o + 256 ≤ 5120) (ho' : o % 256 = 0) (x : S256x256.Idx) (y : S256x5120.Idx)
    (h0 : (y 0).val = (x 0).val) (h1 : (y 1).val = o + (x 1).val) :
    k0_pay28 (k0_pay6 eye) (stack (codeW (k0_pay4 g) (k0_pay5 s) (halfT eye X o 0 ho (by omega)))
      (codeW (k0_pay4 g) (k0_pay5 s) (halfT eye X o 128 ho (by omega)))) x = codeAt g s X (y 0) (y 1) := by
  have e : x = ix2 (y 0) (x 1) := by
    refine funext fun a => Fin.ext ?_
    match a with
    | 0 => exact h0.symm
    | 1 => rfl
  exact (congrArg (k0_pay28 _ _) e).trans (code_row g s eye he X o ho ho' (y 0) (x 1) (y 1) h1)

theorem row_inb (b : ℕ) (hb : b < 40) : ∀ a, (![b, 0] : Fin 2 → Nat) a + S1x256.size a ≤ S40x256.size a := by
  intro a
  match a with
  | 0 => exact hb
  | 1 => exact le_refl 256

/-- The running sum of the dot products after `n` blocks. -/
noncomputable def dotAcc (eye : Vec Ideal S256x256 .f32) (X : Vec Ideal S256x5120 .fp8e5m2) (Y : Vec Ideal S256x5120 .fp8e4m3)
    (E : Vec Ideal S40x256 .f32) : (n : ℕ) → n ≤ 40 → FVec Ideal S1x256 .f32
  | 0, _ => k0_pay8
  | b + 1, hb => k0_pay20 (dotAcc eye X Y E b (Nat.le_of_succ_le hb))
      (halfT eye X (256 * (b / 2)) (128 * (b % 2)) (by omega) (by omega))
      (halfT' eye Y (256 * (b / 2)) (128 * (b % 2)) (by omega) (by omega))
      (View.ld E (Rect.unit ![b, 0] S1x256.size (row_inb b hb)))

/-- What it holds in row `r`. -/
theorem dotAcc_apply (eye : Vec Ideal S256x256 .f32) (he : ∀ i j, eye (ix2 i j) = if i = j then 1 else 0)
    (X : Vec Ideal S256x5120 .fp8e5m2) (Y : Vec Ideal S256x5120 .fp8e4m3) (E : Vec Ideal S40x256 .f32) (r : Fin 256) :
    ∀ (n : ℕ) (hn : n ≤ 40), dotAcc eye X Y E n hn (ix2 0 r) = ∑ b : Fin n,
      (∑ k : Fin 128, X (ix2 r (col b.val (by omega) k)) * Y (ix2 r (col b.val (by omega) k))) * E (ix2 ⟨b.val, by omega⟩ r) := by
  intro n
  induction n with
  | zero =>
    intro _
    unfold dotAcc k0_pay8
    pointwise
    exact Finset.sum_empty.symm
  | succ b ih =>
    intro hb
    unfold dotAcc
    rw [dot_step_apply, ih, Fin.sum_univ_castSucc (n := b)]
    refine congrArg₂ (· + ·) rfl (congrArg₂ (· * ·) (Finset.sum_congr rfl fun k _ => ?_) ?_)
    · rw [halfT_apply eye he X _ _ _ _ k r (col b hb k) (by show 128 * b + k.val = _; omega),
        halfT'_apply eye he Y _ _ _ _ k r (col b hb k) (by show 128 * b + k.val = _; omega)]
      rfl
    · refine View.ld_unit_apply_of _ _ _ _ _ _ fun a => ?_
      match a with
      | 0 => rfl
      | 1 => exact (Nat.zero_add _).symm

end Cert.KernelIdeal.Gen
end
-- ==== Proof.Rows.lean ====
module

public import proofs.«01_k».proof.Proof.Block

@[expose] public section

namespace Cert.KernelIdeal.Gen
open Idealize.ShloMosaic Cert.Proof

/-! # The three results of one row, in terms of that row alone -/

/-- The power of two that block `b` of a row is divided by, in terms of the row alone. -/
noncomputable def rowScale (g s : EReal) (x : Fin 5120 → EReal) (b : Fin 40) : EReal :=
  ((2 : ℝ) ^ expo (quant g s fun k => x (col b.val b.isLt k)) : ℝ)

/-- The code of column `c` of a row, in terms of the row alone. -/
noncomputable def rowCode (g s : EReal) (x : Fin 5120 → EReal) (c : Fin 5120) : EReal :=
  min (Ideal.ofBits .f32 0x47600000#32) (max (Ideal.ofBits .f32 0xC7600000#32)
    (x c * (g * (s * ((2 : ℝ) ^ (-expo (quant g s fun k => x (col (c.val / 128) (by omega) k))) : ℝ)))))

/-- The dot product of a row of `x` with a row of scaled codes `y`, in terms of the two rows and the scales. -/
noncomputable def rowDot (x y : Fin 5120 → EReal) (e : Fin 40 → EReal) : EReal :=
  ∑ b : Fin 40, (∑ k : Fin 128, x (col b.val b.isLt k) * y (col b.val b.isLt k)) * e b

end Cert.KernelIdeal.Gen
end
-- ==== Proof.Tail.lean ====
module

public import proofs.«01_k».proof.Proof.Gen.KernelIdeal.Frame
public import proofs.«01_k».proof.Proof.Gen.ReferenceIdeal.Frame
public import proofs.«01_k».proof.Proof.Rows
public import Idealize.ShloMosaic.Lib.Claim

@[expose] public section

set_option maxRecDepth 16384

open Idealize.ShloMosaic Idealize.ShloMosaic.TcCoe Idealize.ShloMosaic.Tactic
open Idealize.ShloMosaic.Pipeline

/-! # The lines after the region -/

namespace Cert.KernelIdeal.Gen

/-- The gradient of the gates: the row products put back in the order of the tokens, each times its token's scale. -/
noncomputable def gateGrad (rows : Vec Ideal S32768 .f32) (pos : IVec S32768 32) (scale : Vec Ideal S32768 .f32) : Vec Ideal S32768x1 .f32 :=
  mulf (F := Ideal) (φ := .f32) (shapeCast S32768x1 (Host.gather gather_S32768_S32768x1_S32768_n_0_n_n_0_1_1 rows
      (broadcastInDim S32768x1 ![0] bcast_S32768_S32768x1_0
        (select (cmpi .slt pos (broadcastInDim S32768 ![] bcast_S_S32768 (constantI S_ 32 0#32)))
          (addi pos (broadcastInDim S32768 ![] bcast_S_S32768 (constantI S_ 32 32768#32))) pos))) shapeCasts_S32768_S32768x1)
    (broadcastInDim S32768x1 ![0] bcast_S32768_S32768x1_0 scale)

theorem tail_scales (W : Valuation τ sig (Elt Ideal)) :
    (StableHlo.after hostOps1 W (Proc.devRef .tc main_v54) : Vec Ideal S32768x40 .f32)
      = transpose S32768x40 [1, 0] (W (Proc.devRef .tc main_v42_1) : Vec Ideal S40x32768 .f32) transposes_S40x32768_S32768x40_1_0 := by
  after_results_simp

theorem tail_gate (W : Valuation τ sig (Elt Ideal)) :
    (StableHlo.after hostOps1 W (Proc.devRef .tc main_v53) : Vec Ideal S32768x1 .f32)
      = Cert.KernelIdeal.Gen.gateGrad (shapeCast S32768 (W (Proc.devRef .tc main_v42_2) : Vec Ideal S128x1x256 .f32) shapeCasts_S128x1x256_S32768)
          (W (Proc.devRef .tc main_v0) : IVec S32768 32) (W (Proc.devRef .tc main_arg1) : Vec Ideal S32768 .f32) := by
  after_results_simp
  rfl

end Cert.KernelIdeal.Gen

namespace Cert.ReferenceIdeal.Gen

theorem tail_gate (W : Valuation τ sig (Elt Ideal)) :
    (StableHlo.after hostOps1 W (Proc.devRef .tc main_v46) : Vec Ideal S32768x1 .f32)
      = Cert.KernelIdeal.Gen.gateGrad (shapeCast S32768 (W (Proc.devRef .tc main_v35_2) : Vec Ideal S32768x1 .f32) shapeCasts_S32768x1_S32768)
          (W (Proc.devRef .tc main_v0) : IVec S32768 32) (W (Proc.devRef .tc main_arg1) : Vec Ideal S32768 .f32) := by
  after_results_simp
  rfl

end Cert.ReferenceIdeal.Gen
-- ==== Proof.Ends.lean ====
module

public import proofs.«01_k».proof.Proof.Tail
public import Idealize.ShloMosaic.Lib.StableHlo.ReadAt

@[expose] public section

set_option maxRecDepth 16384

open Idealize.ShloMosaic Idealize.ShloMosaic.TcCoe Idealize.ShloMosaic.Tactic
open Idealize.ShloMosaic.Pipeline

/-! # What the two runs end with, in terms of the arrays the regions leave -/

namespace Cert.KernelIdeal.Gen

variable (m : (ℓ : Loc nD τ sig) → Buf (Elt Ideal) ℓ)

theorem arrays_distinct : Function.Injective (arrRef (cfgs 0).spec) := by decide

/-- The contents of the buffers when the region ends. -/
noncomputable abbrev atExit (c : Dev nD) : Valuation τ sig (Elt Ideal) :=
  withArrays (cfgs 0).spec c (V0 m c) fun w => (dats m 0 c).arrAt w (cfgs 0).N

theorem entry_scale (c : Dev nD) : (atExit m c (Proc.devRef .tc main_arg1) : Vec Ideal S32768 .f32) = m ((c.tc : Thread nD τ).loc main_arg1) := by
  refine (withArrays_of_ne _ c _ _ main_arg1 (by decide)).trans ?_
  show V m c main_arg1 = _
  unfold V
  after_reads_simp

theorem entry_pos (c : Dev nD) : (atExit m c (Proc.devRef .tc main_v0) : IVec S32768 32) = shapeCast S32768 (m ((c.tc : Thread nD τ).loc main_arg5) : IVec S32768x1 32) shapeCasts_S32768x1_S32768 := by
  refine (withArrays_of_ne _ c _ _ main_v0 (by decide)).trans ?_
  show V m c main_v0 = _
  unfold V
  after_reads_simp
  rfl

theorem ends {r : PUnit × MemSt nD τ sig (Elt Ideal)}
    (h : FramePost cfgs (dats m) 0 (afterTail₀ cfgs (dats m) 0 (V0 m) [hostOps1]) r) (c : Dev nD) :
    (r.2.mem ((c.tc : Thread nD τ).loc main_v42_0) : Vec Ideal S32768x5120 .fp8e5m2) = (dats m 0 c).arrAt 6 (cfgs 0).N
      ∧ (r.2.mem ((c.tc : Thread nD τ).loc main_v54) : Vec Ideal S32768x40 .f32)
          = transpose S32768x40 [1, 0] ((dats m 0 c).arrAt 7 (cfgs 0).N : Vec Ideal S40x32768 .f32) transposes_S40x32768_S32768x40_1_0
      ∧ (r.2.mem ((c.tc : Thread nD τ).loc main_v53) : Vec Ideal S32768x1 .f32)
          = Cert.KernelIdeal.Gen.gateGrad (shapeCast S32768 ((dats m 0 c).arrAt 8 (cfgs 0).N : Vec Ideal S128x1x256 .f32) shapeCasts_S128x1x256_S32768)
              (shapeCast S32768 (m ((c.tc : Thread nD τ).loc main_arg5) : IVec S32768x1 32) shapeCasts_S32768x1_S32768)
              (m ((c.tc : Thread nD τ).loc main_arg1) : Vec Ideal S32768 .f32) := by
  refine ⟨(h c).1 6, ((h c).2 main_v54 (by decide)).trans ((tail_scales (atExit m c)).trans
    (congrArg (fun X => transpose S32768x40 [1, 0] X transposes_S40x32768_S32768x40_1_0) (withArrays_arr _ arrays_distinct c _ _ 7))), ?_⟩
  refine ((h c).2 main_v53 (by decide)).trans ((tail_gate (atExit m c)).trans ?_)
  rw [entry_scale, entry_pos]
  exact congrArg (fun X => Cert.KernelIdeal.Gen.gateGrad (shapeCast S32768 X _) _ _) (withArrays_arr _ arrays_distinct c _ _ 8)

end Cert.KernelIdeal.Gen

namespace Cert.ReferenceIdeal.Gen

variable (m : (ℓ : Loc nD τ sig) → Buf (Elt Ideal) ℓ)

theorem arrays_distinct : Function.Injective (arrRef (cfgs 0).spec) := by decide

/-- The contents of the buffers when the region ends. -/
noncomputable abbrev atExit (c : Dev nD) : Valuation τ sig (Elt Ideal) :=
  withArrays (cfgs 0).spec c (V0 m c) fun w => (dats m 0 c).arrAt w (cfgs 0).N

theorem entry_scale (c : Dev nD) : (atExit m c (Proc.devRef .tc main_arg1) : Vec Ideal S32768 .f32) = m ((c.tc : Thread nD τ).loc main_arg1) := by
  refine (withArrays_of_ne _ c _ _ main_arg1 (by decide)).trans ?_
  show V m c main_arg1 = _
  unfold V
  after_reads_simp

theorem entry_pos (c : Dev nD) : (atExit m c (Proc.devRef .tc main_v0) : IVec S32768 32) = shapeCast S32768 (m ((c.tc : Thread nD τ).loc main_arg5) : IVec S32768x1 32) shapeCasts_S32768x1_S32768 := by
  refine (withArrays_of_ne _ c _ _ main_v0 (by decide)).trans ?_
  show V m c main_v0 = _
  unfold V
  after_reads_simp
  rfl

theorem ends {r : PUnit × MemSt nD τ sig (Elt Ideal)}
    (h : FramePost cfgs (dats m) 0 (afterTail₀ cfgs (dats m) 0 (V0 m) [hostOps1]) r) (c : Dev nD) :
    (r.2.mem ((c.tc : Thread nD τ).loc main_v35_0) : Vec Ideal S32768x5120 .fp8e5m2) = (dats m 0 c).arrAt 5 (cfgs 0).N
      ∧ (r.2.mem ((c.tc : Thread nD τ).loc main_v35_1) : Vec Ideal S32768x40 .f32) = (dats m 0 c).arrAt 6 (cfgs 0).N
      ∧ (r.2.mem ((c.tc : Thread nD τ).loc main_v46) : Vec Ideal S32768x1 .f32)
          = Cert.KernelIdeal.Gen.gateGrad (shapeCast S32768 ((dats m 0 c).arrAt 7 (cfgs 0).N : Vec Ideal S32768x1 .f32) shapeCasts_S32768x1_S32768)
              (shapeCast S32768 (m ((c.tc : Thread nD τ).loc main_arg5) : IVec S32768x1 32) shapeCasts_S32768x1_S32768)
              (m ((c.tc : Thread nD τ).loc main_arg1) : Vec Ideal S32768 .f32) := by
  refine ⟨(h c).1 5, (h c).1 6, ?_⟩
  refine ((h c).2 main_v46 (by decide)).trans ((tail_gate (atExit m c)).trans ?_)
  rw [entry_scale, entry_pos]
  exact congrArg (fun X => Cert.KernelIdeal.Gen.gateGrad (shapeCast S32768 X _) _ _) (withArrays_arr _ arrays_distinct c _ _ 7)

end Cert.ReferenceIdeal.Gen
-- ==== Proof.Prefix.lean ====
module

public import proofs.«01_k».proof.Proof.Gen.KernelIdeal.Frame
public import proofs.«01_k».proof.Proof.Gen.ReferenceIdeal.Frame
public import proofs.«01_k».proof.Proof.Rows
public import Idealize.ShloMosaic.Lib.StableHlo.ReadAt

@[expose] public section

set_option maxRecDepth 16384

namespace Cert.Proof
open Idealize.ShloMosaic Idealize.ShloMosaic.TcCoe Idealize.ShloMosaic.Tactic
open Idealize.ShloMosaic.Pipeline

/-! # The lines before the region: the two programs gather the same rows -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem gathered_codes (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.V m' c Cert.ReferenceIdeal.main_v32 : Vec Ideal Cert.KernelIdeal.S32768x5120 .fp8e5m2)
      = Cert.KernelIdeal.Gen.V m c Cert.KernelIdeal.main_v32 := by
  unfold Cert.ReferenceIdeal.Gen.V Cert.KernelIdeal.Gen.V
  after_reads_simp
  have h0' : m' (c, Proc.tc.devRef Cert.ReferenceIdeal.main_arg0) = m (c, Proc.tc.devRef Cert.KernelIdeal.main_arg0) := h0
  have h5' : m' (c, Proc.tc.devRef Cert.ReferenceIdeal.main_arg5) = m (c, Proc.tc.devRef Cert.KernelIdeal.main_arg5) := h5
  rw [h0', h5']
  rfl

theorem gathered_gates (c : Dev Cert.KernelIdeal.nD)
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (R : Fin 32768) :
    (Cert.ReferenceIdeal.Gen.V m' c Cert.ReferenceIdeal.main_v34 : Vec Ideal Cert.KernelIdeal.S32768x1 .f32) (ix2 R 0)
      = (Cert.KernelIdeal.Gen.V m c Cert.KernelIdeal.main_v18 : Vec Ideal Cert.KernelIdeal.S32768 .f32) (ix1 R) := by
  unfold Cert.ReferenceIdeal.Gen.V Cert.KernelIdeal.Gen.V
  after_reads_at
  have h4' : m' (c, Proc.tc.devRef Cert.ReferenceIdeal.main_arg4) = m (c, Proc.tc.devRef Cert.KernelIdeal.main_arg4) := h4
  have h5' : m' (c, Proc.tc.devRef Cert.ReferenceIdeal.main_arg5) = m (c, Proc.tc.devRef Cert.KernelIdeal.main_arg5) := h5
  rw [h4', h5']
  rfl

theorem gathered_scale (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (R : Fin 32768) :
    (Cert.ReferenceIdeal.Gen.V m' c Cert.ReferenceIdeal.main_v33 : Vec Ideal Cert.KernelIdeal.S32768x1 .f32) (ix2 R 0)
      = (Cert.KernelIdeal.Gen.V m c Cert.KernelIdeal.main_v25 : Vec Ideal Cert.KernelIdeal.S32768 .f32) (ix1 R) := by
  unfold Cert.ReferenceIdeal.Gen.V Cert.KernelIdeal.Gen.V
  after_reads_at
  have h1' : m' (c, Proc.tc.devRef Cert.ReferenceIdeal.main_arg1) = m (c, Proc.tc.devRef Cert.KernelIdeal.main_arg1) := h1
  have h5' : m' (c, Proc.tc.devRef Cert.ReferenceIdeal.main_arg5) = m (c, Proc.tc.devRef Cert.KernelIdeal.main_arg5) := h5
  rw [h1', h5']
  rfl

theorem scale_nonneg (c : Dev Cert.KernelIdeal.nD)
    (h : ∀ R, (0 : EReal) ≤ (m ((c.tc : Thread Cert.KernelIdeal.nD Cert.KernelIdeal.τ).loc Cert.KernelIdeal.main_arg1) : Vec Ideal Cert.KernelIdeal.S32768 .f32) R)
    (R : Fin 32768) : (0 : EReal) ≤ (Cert.KernelIdeal.Gen.V m c Cert.KernelIdeal.main_v25 : Vec Ideal Cert.KernelIdeal.S32768 .f32) (ix1 R) := by
  unfold Cert.KernelIdeal.Gen.V
  after_reads_simp
  exact h _

end Cert.Proof
end
-- ==== Proof.Premise.lean ====
module

public import proofs.«01_k».proof.Defs
public import proofs.«01_k».proof.Proof.Gen.Pre_nonnegative_scales
public import proofs.«01_k».proof.Proof.Scalar
public import Idealize.ShloMosaic.Lib.ReduceAll

@[expose] public section

namespace Cert.Proof
open Idealize.ShloMosaic Idealize.ShloMosaic.TcCoe

/-! # What the precondition says of the two scale arrays -/

instance : Subsingleton Cert.Pre_nonnegative_scales.S_.Idx := ⟨fun _ _ => funext fun a => a.elim0⟩

theorem ofBool_decide {p : Prop} [Decidable p] (h : BitVec.ofBool (decide p) = 1#1) : p := by
  by_contra hp
  rw [decide_eq_false hp] at h
  exact absurd h (by decide)

theorem word_top : Ideal.ofBits .f32 0x7F800000#32 = (⊤ : EReal) := by
  simp [Ideal.ofBits, Ideal.ieee]

theorem premise_fn (a0 : FVec Ideal Cert.Pre_nonnegative_scales.S32768x5120 .fp8e5m2) (a1 : FVec Ideal Cert.Pre_nonnegative_scales.S32768 .f32)
    (a2 : FVec Ideal Cert.Pre_nonnegative_scales.S32768x5120 .fp8e4m3) (a3 : FVec Ideal Cert.Pre_nonnegative_scales.S32768x40 .f32)
    (a4 : FVec Ideal Cert.Pre_nonnegative_scales.S32768x1 .f32) (a5 : IVec Cert.Pre_nonnegative_scales.S32768x1 32)
    (h : @Cert.Pre_nonnegative_scales.fn Cert.Pre_nonnegative_scales.Gen.facts Ideal _ a0 a1 a2 a3 a4 a5 = fun _ => 1#1) :
    (∀ i, (0 : EReal) ≤ a1 i) ∧ (∀ i, (0 : EReal) ≤ a3 i) ∧ (∀ i, a3 i ≠ (⊤ : EReal)) := by
  have e := congrFun h (fun a : Fin 0 => a.elim0)
  unfold Cert.Pre_nonnegative_scales.fn at e
  dsimp only at e
  obtain ⟨e1, e3⟩ := IntOp.andi_eq_one.1 e
  have k1 := fun i => Host.reduce_andi_all _ _ _ _ _ e1 i
  have k3 := fun i => IntOp.andi_eq_one.1 (Host.reduce_andi_all _ _ _ _ _ e3 i)
  refine ⟨fun i => ?_, fun i => ?_, fun i => ?_⟩
  · have := ofBool_decide (k1 i)
    exact le_of_eq_of_le Ideal.ofBits_zero_f32.symm this
  · have := ofBool_decide (k3 i).1
    exact le_of_eq_of_le Ideal.ofBits_zero_f32.symm this
  · have := ofBool_decide (k3 i).2
    exact (lt_of_lt_of_eq this word_top).ne

/-- From the precondition: the scales of `dy` are not negative, and the scales of the expert outputs are neither
    negative nor infinite. -/
theorem premise (m : (ℓ : Loc Cert.KernelIdeal.nD Cert.KernelIdeal.τ Cert.KernelIdeal.sig) → Buf (Elt Ideal) ℓ)
    (h : @Cert.Pre_KernelIdeal_nonnegative_scales Cert.Pre_nonnegative_scales.Gen.facts m) (c : Dev Cert.KernelIdeal.nD) :
    (∀ i, (0 : EReal) ≤ (m ((c.tc : Thread Cert.KernelIdeal.nD Cert.KernelIdeal.τ).loc Cert.KernelIdeal.main_arg1) : Vec Ideal Cert.KernelIdeal.S32768 .f32) i)
      ∧ (∀ i, (0 : EReal) ≤ (m ((c.tc : Thread Cert.KernelIdeal.nD Cert.KernelIdeal.τ).loc Cert.KernelIdeal.main_arg3) : Vec Ideal Cert.KernelIdeal.S32768x40 .f32) i)
      ∧ (∀ i, (m ((c.tc : Thread Cert.KernelIdeal.nD Cert.KernelIdeal.τ).loc Cert.KernelIdeal.main_arg3) : Vec Ideal Cert.KernelIdeal.S32768x40 .f32) i ≠ (⊤ : EReal)) :=
  premise_fn _ _ _ _ _ _ (h c)

end Cert.Proof
-- ==== Proof.Point.lean ====
module

public import proofs.«01_k».proof.Proof.Gen.KernelIdeal.Frame
public import proofs.«01_k».proof.Proof.Block

@[expose] public section

set_option maxRecDepth 16384

namespace Cert.KernelIdeal.Gen
open Idealize.ShloMosaic Idealize.ShloMosaic.TcCoe Idealize.ShloMosaic.Tactic
open Idealize.ShloMosaic.Pipeline

/-! # What a grid point leaves in its three output blocks -/

variable (m : (ℓ : Loc nD τ sig) → Buf (Elt Ideal) ℓ)

theorem scales_point (c : Dev nD) (t : Fin cfg0.N)
    (he : ∀ i j : Fin 256, (iblk m c 5 t : Vec Ideal S256x256 .f32) (ix2 i j) = (if i = j then 1 else 0 : EReal)) (y : S40x256.Idx) :
    (outsAt0 m c t).2.1 y = scaleAt (iblk m c 2 t) (iblk m c 3 t) (iblk m c 0 t) (y 0) (y 1) := by
  unfold outsAt0
  dsimp only
  frame_open
  simp (disch := decide) only [↓ View.readCov_skip, ↓ View.readCov_cons_toLoadRect, ↓ View.readCov_fill]
  frame_out
  canon_tiles x h
  all_goals first
    | (have key := scale_tile (iblk m c 2 t) (iblk m c 3 t) (iblk m c 5 t) he (iblk m c 0 t) _ (by decide) x y h0 h1
       exact key)
    | exact scale_tile (iblk m c 2 t) (iblk m c 3 t) (iblk m c 5 t) he (iblk m c 0 t) 0 (by decide) x y (h0.trans (Nat.zero_add _).symm) h1

theorem codes_point (c : Dev nD) (t : Fin cfg0.N)
    (he : ∀ i j : Fin 256, (iblk m c 5 t : Vec Ideal S256x256 .f32) (ix2 i j) = (if i = j then 1 else 0 : EReal)) (y : S256x5120.Idx) :
    (outsAt0 m c t).1 y = codeAt (iblk m c 2 t) (iblk m c 3 t) (iblk m c 0 t) (y 0) (y 1) := by
  unfold outsAt0
  dsimp only
  frame_open
  simp (disch := decide) only [↓ readCov_two, ↓ View.readCov_skip, ↓ View.readCov_cons_toLoadRect, ↓ View.readCov_fill]
  frame_out
  canon_tiles x h
  all_goals first
    | (have key := code_tile (iblk m c 2 t) (iblk m c 3 t) (iblk m c 5 t) he (iblk m c 0 t) _ (by decide) (by decide) x y h0 h1
       exact key)
    | exact code_tile (iblk m c 2 t) (iblk m c 3 t) (iblk m c 5 t) he (iblk m c 0 t) 0 (by decide) (by decide) x y h0
        (h1.trans (Nat.zero_add _).symm)

theorem dot_point (c : Dev nD) (t : Fin cfg0.N) :
    (outsAt0 m c t).2.2 = shapeCast S1x1x256 (dotAcc (iblk m c 5 t) (iblk m c 0 t) (iblk m c 1 t) (iblk m c 4 t) 40 (le_refl _))
      shapeCasts_S1x256_S1x1x256 := by
  unfold outsAt0
  dsimp only
  frame_open
  simp (disch := decide) only [↓ View.readCov_skip, ↓ View.readCov_cons_toLoadRect, ↓ View.readCov_fill]
  frame_out
  rfl

end Cert.KernelIdeal.Gen
end
-- ==== Proof.Entry.lean ====
module

public import proofs.«01_k».proof.Proof.Point
public import Idealize.ShloMosaic.Lib.StableHlo.ReadAt

@[expose] public section

set_option maxRecDepth 16384

namespace Cert.KernelIdeal.Gen
open Idealize.ShloMosaic Idealize.ShloMosaic.TcCoe Idealize.ShloMosaic.Tactic
open Idealize.ShloMosaic.Pipeline

/-! # What the staged blocks of the inputs hold, at an index -/

variable (m : (ℓ : Loc nD τ sig) → Buf (Elt Ideal) ℓ)

theorem idx0 : ∀ t : Fin cfg0.N, win0_0.index t = ![(t : ℕ), 0] := by decide +kernel
theorem idx1 : ∀ t : Fin cfg0.N, win0_1.index t = ![(t : ℕ), 0] := by decide +kernel
theorem idx2 : ∀ t : Fin cfg0.N, win0_2.index t = ![(t : ℕ), 0, 0] := by decide +kernel
theorem idx3 : ∀ t : Fin cfg0.N, win0_3.index t = ![(t : ℕ), 0, 0] := by decide +kernel
theorem idx4 : ∀ t : Fin cfg0.N, win0_4.index t = ![0, (t : ℕ)] := by decide +kernel
theorem idx5 : ∀ t : Fin cfg0.N, win0_5.index t = ![0, 0] := by decide +kernel
theorem idx6 : ∀ t : Fin cfg0.N, win0_6.index t = ![(t : ℕ), 0] := by decide +kernel
theorem idx7 : ∀ t : Fin cfg0.N, win0_7.index t = ![0, (t : ℕ)] := by decide +kernel
theorem idx8 : ∀ t : Fin cfg0.N, win0_8.index t = ![(t : ℕ), 0, 0] := by decide +kernel

/-- Row `r` of block `t` in the whole array. -/
def row (t : Fin cfg0.N) (r : Fin 256) : Fin 32768 := ⟨t.val * 256 + r.val, by have : t.val < 128 := t.isLt; omega⟩

theorem iblk0_apply (c : Dev nD) (t : Fin cfg0.N) (r : Fin 256) (k : Fin 5120) :
    (iblk m c 0 t : Vec Ideal S256x5120 .fp8e5m2) (ix2 r k) = (V m c main_v32 : Vec Ideal S32768x5120 .fp8e5m2) (ix2 (row t r) k) := by
  blk_simp [iblk, idx0]
  refine congrArg (V m c main_v32 : Vec Ideal S32768x5120 .fp8e5m2) (funext fun a => Fin.ext ?_)
  match a with
  | 0 => blk_simp [idx0]; rfl
  | 1 => blk_simp [idx0]

theorem iblk1_apply (c : Dev nD) (t : Fin cfg0.N) (r : Fin 256) (k : Fin 5120) :
    (iblk m c 1 t : Vec Ideal S256x5120 .fp8e4m3) (ix2 r k) = (m ((c.tc : Thread nD τ).loc main_arg2) : Vec Ideal S32768x5120 .fp8e4m3) (ix2 (row t r) k) := by
  blk_ext [iblk, V, idx1]
  all_goals rfl

theorem v33_apply (c : Dev nD) (i : Fin 128) (r : Fin 256) (R : Fin 32768) (h : R.val = i.val * 256 + r.val) :
    (V m c main_v33 : Vec Ideal S128x1x256 .f32) (ix3 i 0 r) = (V m c main_v18 : Vec Ideal S32768 .f32) (ix1 R) := by
  have hR : R = ⟨i.val * 256 + r.val, by have := i.isLt; have := r.isLt; clear h; omega⟩ := Fin.ext h
  rw [hR]
  clear hR h R
  unfold V
  after_reads_at

theorem v34_apply (c : Dev nD) (i : Fin 128) (r : Fin 256) (R : Fin 32768) (h : R.val = i.val * 256 + r.val) :
    (V m c main_v34 : Vec Ideal S128x1x256 .f32) (ix3 i 0 r) = (V m c main_v25 : Vec Ideal S32768 .f32) (ix1 R) := by
  have hR : R = ⟨i.val * 256 + r.val, by have := i.isLt; have := r.isLt; clear h; omega⟩ := Fin.ext h
  rw [hR]
  clear hR h R
  unfold V
  after_reads_at

theorem v41_apply (c : Dev nD) (i j : Fin 256) :
    (V m c main_v41 : Vec Ideal S256x256 .f32) (ix2 i j) = (if i = j then 1 else 0 : EReal) := by
  unfold V
  after_reads_at
  have e : IntOp.addi (BitVec.ofNat 32 i.val) 0#32 = BitVec.ofNat 32 i.val := by simp [IntOp.addi]
  rw [e]
  by_cases h : i = j
  · subst h
    simp [IntOp.cmpi, FloatOps.uitofp]
  · have hne : BitVec.ofNat 32 i.val ≠ BitVec.ofNat 32 j.val := by
      intro hh
      have h2 := congrArg BitVec.toNat hh
      simp only [BitVec.toNat_ofNat] at h2
      exact h (Fin.ext (by omega))
    simp [IntOp.cmpi, hne, h, FloatOps.uitofp]

theorem v35_apply (c : Dev nD) (i : Fin 40) (R : Fin 32768) :
    (V m c main_v35 : Vec Ideal S40x32768 .f32) (ix2 i R) = (m ((c.tc : Thread nD τ).loc main_arg3) : Vec Ideal S32768x40 .f32) (ix2 R i) := by
  unfold V
  after_reads_at

theorem iblk2_apply (c : Dev nD) (t : Fin cfg0.N) (r : Fin 256) :
    (iblk m c 2 t : Vec Ideal S1x1x256 .f32) (ix3 0 0 r) = (V m c main_v18 : Vec Ideal S32768 .f32) (ix1 (row t r)) := by
  refine Eq.trans ?_ (v33_apply m c ⟨t.val, t.isLt⟩ r (row t r) rfl)
  blk_simp [iblk]
  refine congrArg (V m c main_v33 : Vec Ideal S128x1x256 .f32) (funext fun a => Fin.ext ?_)
  match a with
  | 0 => blk_simp [idx2]; rfl
  | 1 => blk_simp [idx2]
  | 2 => blk_simp [idx2]

theorem iblk3_apply (c : Dev nD) (t : Fin cfg0.N) (r : Fin 256) :
    (iblk m c 3 t : Vec Ideal S1x1x256 .f32) (ix3 0 0 r) = (V m c main_v25 : Vec Ideal S32768 .f32) (ix1 (row t r)) := by
  refine Eq.trans ?_ (v34_apply m c ⟨t.val, t.isLt⟩ r (row t r) rfl)
  blk_simp [iblk]
  refine congrArg (V m c main_v34 : Vec Ideal S128x1x256 .f32) (funext fun a => Fin.ext ?_)
  match a with
  | 0 => blk_simp [idx3]; rfl
  | 1 => blk_simp [idx3]
  | 2 => blk_simp [idx3]

theorem iblk4_apply (c : Dev nD) (t : Fin cfg0.N) (b : Fin 40) (r : Fin 256) :
    (iblk m c 4 t : Vec Ideal S40x256 .f32) (ix2 b r) = (m ((c.tc : Thread nD τ).loc main_arg3) : Vec Ideal S32768x40 .f32) (ix2 (row t r) b) := by
  refine Eq.trans ?_ (v35_apply m c b (row t r))
  blk_simp [iblk]
  refine congrArg (V m c main_v35 : Vec Ideal S40x32768 .f32) (funext fun a => Fin.ext ?_)
  match a with
  | 0 => blk_simp [idx4]
  | 1 => blk_simp [idx4]; rfl

theorem eye_point (c : Dev nD) (t : Fin cfg0.N) (i j : Fin 256) :
    (iblk m c 5 t : Vec Ideal S256x256 .f32) (ix2 i j) = (if i = j then 1 else 0 : EReal) := by
  refine Eq.trans ?_ (v41_apply m c i j)
  blk_simp [iblk]
  refine congrArg (V m c main_v41 : Vec Ideal S256x256 .f32) (funext fun a => Fin.ext ?_)
  match a with
  | 0 => blk_simp [idx5]
  | 1 => blk_simp [idx5]

end Cert.KernelIdeal.Gen
end
-- ==== Proof.Arrays.lean ====
module

public import proofs.«01_k».proof.Proof.Entry
public import proofs.«01_k».proof.Proof.Rows

@[expose] public section

set_option maxRecDepth 16384

namespace Cert.KernelIdeal.Gen
open Idealize.ShloMosaic Idealize.ShloMosaic.TcCoe Idealize.ShloMosaic.Tactic
open Idealize.ShloMosaic.Pipeline Cert.Proof

variable (m : (ℓ : Loc nD τ sig) → Buf (Elt Ideal) ℓ)

/-! # The three arrays after the last grid point -/

theorem code_of_row (c : Dev nD) (t : Fin cfg0.N) (r : Fin 256) (j : Fin 5120) (R : Fin 32768) (J : Fin 5120)
    (hR : R.val = t.val * 256 + r.val) (hJ : J.val = j.val) :
    codeAt (iblk m c 2 t) (iblk m c 3 t) (iblk m c 0 t) r j
      = rowCode ((V m c main_v18 : Vec Ideal S32768 .f32) (ix1 R)) ((V m c main_v25 : Vec Ideal S32768 .f32) (ix1 R))
          (fun k => (V m c main_v32 : Vec Ideal S32768x5120 .fp8e5m2) (ix2 R k)) J := by
  have e1 : R = row t r := Fin.ext hR
  have e2 : J = j := Fin.ext hJ
  rw [e1, e2]
  unfold codeAt quantAt rowCode
  simp only [iblk0_apply, iblk2_apply, iblk3_apply]

theorem scale_of_row (c : Dev nD) (t : Fin cfg0.N) (b : Fin 40) (r : Fin 256) (B : Fin 40) (R : Fin 32768)
    (hB : B.val = b.val) (hR : R.val = t.val * 256 + r.val) :
    scaleAt (iblk m c 2 t) (iblk m c 3 t) (iblk m c 0 t) b r
      = rowScale ((V m c main_v18 : Vec Ideal S32768 .f32) (ix1 R)) ((V m c main_v25 : Vec Ideal S32768 .f32) (ix1 R))
          (fun k => (V m c main_v32 : Vec Ideal S32768x5120 .fp8e5m2) (ix2 R k)) B := by
  have e1 : R = row t r := Fin.ext hR
  have e2 : B = b := Fin.ext hB
  rw [e1, e2]
  unfold scaleAt quantAt rowScale
  simp only [iblk0_apply, iblk2_apply, iblk3_apply]

theorem dot_of_row (c : Dev nD) (t : Fin cfg0.N) (r : Fin 256) (R : Fin 32768) (hR : R.val = t.val * 256 + r.val) :
    dotAcc (iblk m c 5 t) (iblk m c 0 t) (iblk m c 1 t) (iblk m c 4 t) 40 (le_refl _) (ix2 0 r)
      = rowDot (fun k => (V m c main_v32 : Vec Ideal S32768x5120 .fp8e5m2) (ix2 R k))
      (fun k => (m ((c.tc : Thread nD τ).loc main_arg2) : Vec Ideal S32768x5120 .fp8e4m3) (ix2 R k))
      (fun b => (m ((c.tc : Thread nD τ).loc main_arg3) : Vec Ideal S32768x40 .f32) (ix2 R b)) := by
  have e1 : R = row t r := Fin.ext hR
  rw [e1, dotAcc_apply (iblk m c 5 t) (eye_point m c t)]
  unfold rowDot
  refine Finset.sum_congr rfl fun b _ => ?_
  simp only [iblk0_apply, iblk1_apply, iblk4_apply]

theorem row_of_slab (w : FVec Ideal S1x256 .f32) (y : S1x1x256.Idx) :
    shapeCast S1x1x256 w shapeCasts_S1x256_S1x1x256 y = w (ix2 0 (y 2)) := by
  pointwise

theorem arr6 (c : Dev nD) : ((dats m 0 c).arrAt 6 (cfgs 0).N : Vec Ideal S32768x5120 .fp8e5m2) = fun y =>
    rowCode ((V m c main_v18 : Vec Ideal S32768 .f32) (ix1 (y 0))) ((V m c main_v25 : Vec Ideal S32768 .f32) (ix1 (y 0)))
      (fun k => (V m c main_v32 : Vec Ideal S32768x5120 .fp8e5m2) (ix2 (y 0) k)) (y 1) := by
  refine (dats m 0 c).arrAt_eq_of_covers 6 _ (by decide +kernel) fun t hf y => ?_
  blk_simp
  rw [after0_6, codes_point m c t (eye_point m c t)]
  exact code_of_row m c t (y 0) (y 1) _ _ (by blk_simp [idx6]) (by blk_simp [idx6])

theorem arr7 (c : Dev nD) : ((dats m 0 c).arrAt 7 (cfgs 0).N : Vec Ideal S40x32768 .f32) = fun y =>
    rowScale ((V m c main_v18 : Vec Ideal S32768 .f32) (ix1 (y 1))) ((V m c main_v25 : Vec Ideal S32768 .f32) (ix1 (y 1)))
      (fun k => (V m c main_v32 : Vec Ideal S32768x5120 .fp8e5m2) (ix2 (y 1) k)) (y 0) := by
  refine (dats m 0 c).arrAt_eq_of_covers 7 _ (by decide +kernel) fun t hf y => ?_
  blk_simp
  rw [after0_7, scales_point m c t (eye_point m c t)]
  exact scale_of_row m c t (y 0) (y 1) _ _ (by blk_simp [idx7]) (by blk_simp [idx7])

/-- The row of the whole array that slab `i`, lane `r` of the third output stands for. -/
def slabRow (i : Fin 128) (r : Fin 256) : Fin 32768 := ⟨i.val * 256 + r.val, by omega⟩

theorem arr8 (c : Dev nD) : ((dats m 0 c).arrAt 8 (cfgs 0).N : Vec Ideal S128x1x256 .f32) = fun y =>
    rowDot (fun k => (V m c main_v32 : Vec Ideal S32768x5120 .fp8e5m2) (ix2 (slabRow (y 0) (y 2)) k))
      (fun k => (m ((c.tc : Thread nD τ).loc main_arg2) : Vec Ideal S32768x5120 .fp8e4m3) (ix2 (slabRow (y 0) (y 2)) k))
      (fun b => (m ((c.tc : Thread nD τ).loc main_arg3) : Vec Ideal S32768x40 .f32) (ix2 (slabRow (y 0) (y 2)) b)) := by
  refine (dats m 0 c).arrAt_eq_of_covers 8 _ (by decide +kernel) fun t hf y => ?_
  blk_simp
  rw [after0_8, dot_point]
  refine (row_of_slab _ y).trans ?_
  refine (dot_of_row m c t (y 2) (slabRow ((win0_8.blk t).view.emb y 0) ((win0_8.blk t).view.emb y 2)) ?_)
  unfold slabRow
  blk_simp [idx8]

end Cert.KernelIdeal.Gen
end
-- ==== Proof.ReferenceBody.lean ====
module

public import proofs.«01_k».proof.Proof.Gen.ReferenceIdeal.Frame
public import proofs.«01_k».proof.Proof.Rows

@[expose] public section

set_option maxRecDepth 16384

namespace Cert.ReferenceIdeal.Gen
open Idealize.ShloMosaic Idealize.ShloMosaic.TcCoe Idealize.ShloMosaic.Tactic
open Idealize.ShloMosaic.Pipeline Cert.Proof

/-! # What the reference's body computes, at an index -/

theorem pay4_apply (X : Vec Ideal S32768x5120 .fp8e5m2) (g s : Vec Ideal S32768x1 .f32) (R : Fin 32768) (b : Fin 40) (k : Fin 128) :
    k0_pay4 X g s (ix3 R b k) = g (ix2 R 0) * (X (ix2 R (Cert.KernelIdeal.Gen.col b.val b.isLt k)) * s (ix2 R 0)) := by
  unfold k0_pay4 k0_pay3
  pointwise
  have e : (⟨b.val * 128 + k.val, by omega⟩ : Fin 5120) = Cert.KernelIdeal.Gen.col b.val b.isLt k :=
    Fin.ext (by show b.val * 128 + k.val = 128 * b.val + k.val; omega)
  rw [← e]

/-- The largest absolute value of one block. -/
theorem absMax_shape (Z : FVec Ideal S32768x40x128 .f32) (R : Fin 32768) (b : Fin 40) :
    (multiReduction .maximumf [2] S32768x40 (absf Z) 0xFF800000#32 reduces_S32768x40x128_S32768x40 (.inl rfl) rfl : FVec Ideal S32768x40 .f32) (ix2 R b)
      = (Finset.univ : Finset (Fin 128)).fold max ⊥ (fun k => max (Z (ix3 R b k)) (-(Z (ix3 R b k)))) := by
  pointwise
  rw [Cert.KernelIdeal.Gen.ofBits_bot]
  rfl

/-- The exponent from the maximum, for any constants. -/
theorem exponent_shape (am : FVec Ideal S32768x40 .f32) (A B C D O : Ideal .f32) (R : Fin 32768) (b : Fin 40) :
    select (cmpf .oeq am (broadcast S32768x40 (Scalar.ofBits .f32 0x00000000#32))) (broadcast S32768x40 (Scalar.ofBits .f32 0x00000000#32))
      (minimumf (broadcast S32768x40 C) (maximumf (broadcast S32768x40 B)
        (addf (floor (divf (log (mulf am (broadcast S32768x40 A))) (log (broadcast S32768x40 D)))) (broadcast S32768x40 O)))) (ix2 R b)
      = if am (ix2 R b) = 0 then 0
        else min C (max B (Ideal.liftRound Int.floor (Ideal.div (Ideal.log (am (ix2 R b) * A)) (Ideal.log D)) + O)) := by
  pointwise

theorem pay5_apply (X : Vec Ideal S32768x5120 .fp8e5m2) (g s : Vec Ideal S32768x1 .f32) (R : Fin 32768) (b : Fin 40) :
    k0_pay5 X g s (ix2 R b)
      = if (Finset.univ : Finset (Fin 128)).fold max ⊥ (fun k => max (k0_pay4 X g s (ix3 R b k)) (-(k0_pay4 X g s (ix3 R b k)))) = 0 then 0
        else min (Ideal.ofBits .f32 0x42FC0000#32) (max (Ideal.ofBits .f32 0xC2FC0000#32) (Ideal.liftRound Int.floor (Ideal.div
          (Ideal.log ((Finset.univ : Finset (Fin 128)).fold max ⊥ (fun k => max (k0_pay4 X g s (ix3 R b k)) (-(k0_pay4 X g s (ix3 R b k))))
            * Ideal.ofBits .f32 0x37924925#32)) (Ideal.log (Ideal.ofBits .f32 0x40000000#32))) + Ideal.ofBits .f32 0x3F800000#32)) :=
  by
  rw [← absMax_shape (k0_pay4 X g s) R b]
  exact exponent_shape _ _ _ _ _ _ R b

/-- A code at one place, for any constants. -/
theorem code_shape (Z : FVec Ideal S32768x40x128 .f32) (N : FVec Ideal S32768x40 .f32) (A B O : Ideal .f32) (R : Fin 32768) (j : Fin 5120) :
    shapeCast S32768x5120 (truncf .fp8e5m2 (minimumf (broadcast S32768x40x128 A) (maximumf (broadcast S32768x40x128 B) (mulf Z
      (broadcastTo S32768x40x128 (shapeCast S32768x40x1 (exp2 (subf (broadcast S32768x40 O) N)) shapeCasts_S32768x40_S32768x40x1)
        broadcasts_S32768x40x1_S32768x40x128)))) bitsLt_fp8e5m2_f32) shapeCasts_S32768x40x128_S32768x5120 (ix2 R j)
      = min A (max B (Z (ix3 R ⟨j.val / 128, by omega⟩ ⟨j.val % 128, by omega⟩) * Ideal.exp2 (O - N (ix2 R ⟨j.val / 128, by omega⟩)))) := by
  pointwise
  rfl

theorem pay6_apply (X : Vec Ideal S32768x5120 .fp8e5m2) (g s : Vec Ideal S32768x1 .f32) (R : Fin 32768) (j : Fin 5120) :
    k0_pay6 X g s (ix2 R j)
      = min (Ideal.ofBits .f32 0x47600000#32) (max (Ideal.ofBits .f32 0xC7600000#32)
          (k0_pay4 X g s (ix3 R ⟨j.val / 128, by omega⟩ ⟨j.val % 128, by omega⟩)
            * Ideal.exp2 (Ideal.ofBits .f32 0x00000000#32 - k0_pay5 X g s (ix2 R ⟨j.val / 128, by omega⟩)))) :=
  code_shape (k0_pay4 X g s) (k0_pay5 X g s) _ _ _ R j

theorem pay1_apply (N : FVec Ideal S32768x40 .f32) (R : Fin 32768) (b : Fin 40) : k0_pay1 N (ix2 R b) = Ideal.exp2 (N (ix2 R b)) := by
  unfold k0_pay1
  pointwise
  rfl

theorem pay2_apply (X : FVec Ideal S32768x5120 .fp8e5m2) (Y : Vec Ideal S32768x5120 .fp8e4m3) (E : Vec Ideal S32768x40 .f32) (R : Fin 32768) :
    k0_pay2 X Y E (ix2 R 0) = ∑ x : Fin 5120, X (ix2 R x) * (Y (ix2 R x) * E (ix2 R ⟨x.val / 128, by omega⟩)) := by
  unfold k0_pay2
  pointwise

end Cert.ReferenceIdeal.Gen
end
-- ==== Proof.RowEquation.lean ====
module

public import proofs.«01_k».proof.Proof.Rows

@[expose] public section

namespace Cert.Proof
open Idealize.ShloMosaic Cert.KernelIdeal.Gen

/-! # One row: the exponent by the logarithm against the exponent by the count, and what follows from it -/

theorem word_126 : Ideal.ofBits .f32 0x42FC0000#32 = 126 := by
  simp [Ideal.ofBits, Ideal.ieee]
  norm_num
  rw [← EReal.coe_mul]
  norm_num
  norm_cast

theorem word_neg_126 : Ideal.ofBits .f32 0xC2FC0000#32 = -126 := by
  simp [Ideal.ofBits, Ideal.ieee]
  norm_num
  rw [← EReal.coe_mul]
  norm_num
  norm_cast

theorem word_factor : ∃ k : ℝ, 0 < k ∧ Ideal.ofBits .f32 0x37924925#32 = ((k : ℝ) : EReal) := by
  refine ⟨9586981 * (2 : ℝ) ^ (-39 : ℤ), by positivity, ?_⟩
  simp [Ideal.ofBits, Ideal.ieee]

theorem exp2_int (z : ℤ) : Ideal.exp2 (((z : ℝ)) : EReal) = (((2 : ℝ) ^ z : ℝ) : EReal) := by
  show ((Real.rpow 2 (z : ℝ) : ℝ) : EReal) = _
  exact congrArg _ (Real.rpow_intCast 2 z)

theorem neg_int (z : ℤ) : (0 : EReal) - ((z : ℝ) : EReal) = (((-z : ℤ) : ℝ) : EReal) := by
  rw [zero_sub, ← EReal.coe_neg]
  push_cast
  rfl

/-- The exponent of a block as the reference takes it: by the logarithm of the scaled maximum. -/
theorem exponent_eq (g s : EReal) (hs : 0 ≤ s) (x : Fin 128 → EReal) (am : EReal)
    (ham : am = (Finset.univ : Finset (Fin 128)).fold max ⊥ (fun k => max (g * (x k * s)) (-(g * (x k * s))))) :
    (if am = 0 then (0 : EReal)
      else min (Ideal.ofBits .f32 0x42FC0000#32) (max (Ideal.ofBits .f32 0xC2FC0000#32) (Ideal.liftRound Int.floor (Ideal.div
        (Ideal.log (am * Ideal.ofBits .f32 0x37924925#32)) (Ideal.log (Ideal.ofBits .f32 0x40000000#32))) + Ideal.ofBits .f32 0x3F800000#32)))
      = ((expo (quant g s x) : ℝ) : EReal) := by
  have h0 : 0 ≤ am := by
    rw [ham]
    exact absMax_nonneg (by norm_num) _
  have hq : quant g s x = am * Ideal.ofBits .f32 0x37924925#32 := by
    unfold quant
    rw [ham, absMax_scaled (by norm_num) x g s hs]
  obtain ⟨k, hk, hw⟩ := word_factor
  have hk' : (0 : EReal) < (k : EReal) := by exact_mod_cast hk
  rw [hq, hw, log_two, word_126, word_neg_126, Ideal.ofBits_one_f32]
  by_cases h : am = 0
  · rw [if_pos h, h, zero_mul]
    simp [expo]
  · have hp : 0 < am * (k : EReal) := EReal.mul_pos (lt_of_le_of_ne h0 (Ne.symm h)) hk'
    rw [if_neg h, expo_log _ hp]
    unfold expo
    rw [if_neg hp.ne']

theorem code_eq (g s x : EReal) (z : ℤ) :
    (g * (x * s)) * Ideal.exp2 (Ideal.ofBits .f32 0x00000000#32 - ((z : ℝ) : EReal)) = x * (g * (s * (((2 : ℝ) ^ (-z) : ℝ) : EReal))) := by
  rw [Ideal.ofBits_zero_f32, neg_int, exp2_int]
  rw [mul_left_comm g x s, mul_assoc, mul_assoc]

theorem col_divMod (j : Fin 5120) : col (j.val / 128) (by omega) ⟨j.val % 128, by omega⟩ = j :=
  Fin.ext (Nat.div_add_mod j.val 128)

theorem rowDot_eq (x y : Fin 5120 → EReal) (e : Fin 40 → EReal) (h0 : ∀ b, 0 ≤ e b) (ht : ∀ b, e b ≠ ⊤) :
    rowDot x y e = ∑ j : Fin 5120, x j * (y j * e ⟨j.val / 128, by omega⟩) := by
  unfold rowDot
  have h1 : ∀ b : Fin 40, (∑ k : Fin 128, x (col b.val b.isLt k) * y (col b.val b.isLt k)) * e b
      = ∑ k : Fin 128, x (col b.val b.isLt k) * (y (col b.val b.isLt k) * e b) := fun b => by
    rw [sum_mul_nonneg _ _ _ (h0 b) (ht b)]
    exact Finset.sum_congr rfl fun k _ => mul_assoc _ _ _
  rw [Finset.sum_congr rfl fun b _ => h1 b, ← Finset.sum_product']
  refine Finset.sum_bij' (fun p _ => col p.1.val p.1.isLt p.2) (fun j _ => (⟨j.val / 128, by omega⟩, ⟨j.val % 128, by omega⟩))
    (fun _ _ => Finset.mem_univ _) (fun _ _ => Finset.mem_univ _) ?_ ?_ ?_
  · rintro ⟨b, k⟩ _
    refine Prod.ext (Fin.ext ?_) (Fin.ext ?_)
    · show (128 * b.val + k.val) / 128 = b.val; omega
    · show (128 * b.val + k.val) % 128 = k.val; omega
  · intro j _
    exact col_divMod j
  · rintro ⟨b, k⟩ _
    have e1 : (⟨(col b.val b.isLt k).val / 128, by omega⟩ : Fin 40) = b := Fin.ext (by show (128 * b.val + k.val) / 128 = b.val; omega)
    rw [e1]

end Cert.Proof
end
-- ==== Proof.ReferenceArrays.lean ====
module

public import proofs.«01_k».proof.Proof.ReferenceBody
public import proofs.«01_k».proof.Proof.RowEquation
public import Idealize.ShloMosaic.Lib.StableHlo.ReadAt

@[expose] public section

set_option maxRecDepth 16384

namespace Cert.ReferenceIdeal.Gen
open Idealize.ShloMosaic Idealize.ShloMosaic.TcCoe Idealize.ShloMosaic.Tactic
open Idealize.ShloMosaic.Pipeline Cert.Proof
open Cert.KernelIdeal.Gen (rowCode rowScale rowDot quant col)

/-! # What the reference's arrays hold -/

theorem exponent_apply (X : Vec Ideal S32768x5120 .fp8e5m2) (g s : Vec Ideal S32768x1 .f32) (R : Fin 32768) (hs : 0 ≤ s (ix2 R 0))
    (b : Fin 40) : k0_pay5 X g s (ix2 R b) = ((expo (quant (g (ix2 R 0)) (s (ix2 R 0)) fun k => X (ix2 R (col b.val b.isLt k))) : ℝ) : EReal) := by
  rw [pay5_apply]
  simp only [pay4_apply]
  exact exponent_eq _ _ hs (fun k => X (ix2 R (col b.val b.isLt k))) _ rfl

theorem scale_apply (X : Vec Ideal S32768x5120 .fp8e5m2) (g s : Vec Ideal S32768x1 .f32) (R : Fin 32768) (hs : 0 ≤ s (ix2 R 0))
    (b : Fin 40) : k0_pay1 (k0_pay5 X g s) (ix2 R b) = rowScale (g (ix2 R 0)) (s (ix2 R 0)) (fun k => X (ix2 R k)) b := by
  rw [pay1_apply, exponent_apply X g s R hs, exp2_int]
  rfl

theorem code_apply (X : Vec Ideal S32768x5120 .fp8e5m2) (g s : Vec Ideal S32768x1 .f32) (R : Fin 32768) (hs : 0 ≤ s (ix2 R 0))
    (j : Fin 5120) : k0_pay6 X g s (ix2 R j) = rowCode (g (ix2 R 0)) (s (ix2 R 0)) (fun k => X (ix2 R k)) j := by
  rw [pay6_apply, exponent_apply X g s R hs, pay4_apply, code_eq]
  unfold rowCode
  rw [col_divMod]

theorem dot_apply (X : FVec Ideal S32768x5120 .fp8e5m2) (Y : Vec Ideal S32768x5120 .fp8e4m3) (E : Vec Ideal S32768x40 .f32) (R : Fin 32768)
    (h0 : ∀ b, 0 ≤ E (ix2 R b)) (ht : ∀ b, E (ix2 R b) ≠ ⊤) :
    k0_pay2 (k0_pay3 X) Y E (ix2 R 0) = rowDot (fun k => X (ix2 R k)) (fun k => Y (ix2 R k)) fun b => E (ix2 R b) := by
  rw [pay2_apply, rowDot_eq _ _ _ h0 ht]
  refine Finset.sum_congr rfl fun k _ => ?_
  congr 1
  unfold k0_pay3
  pointwise

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel

theorem iblk0_whole (c : Dev nD) (t : Fin cfg0.N) : (iblk m c 0 t : Vec Ideal S32768x5120 .fp8e5m2) = V m c main_v32 := by
  funext y
  blk_simp [iblk]
  refine congrArg (V m c main_v32 : Vec Ideal S32768x5120 .fp8e5m2) (funext fun a => Fin.ext ?_)
  match a with
  | 0 => blk_simp [idx0]
  | 1 => blk_simp [idx0]

theorem iblk1_whole (c : Dev nD) (t : Fin cfg0.N) : (iblk m c 1 t : Vec Ideal S32768x1 .f32) = V m c main_v33 := by
  funext y
  blk_simp [iblk]
  refine congrArg (V m c main_v33 : Vec Ideal S32768x1 .f32) (funext fun a => Fin.ext ?_)
  match a with
  | 0 => blk_simp [idx1]
  | 1 => blk_simp [idx1]

theorem iblk2_whole (c : Dev nD) (t : Fin cfg0.N) :
    (iblk m c 2 t : Vec Ideal S32768x5120 .fp8e4m3) = m ((c.tc : Thread nD τ).loc main_arg2) := by
  funext y
  blk_ext [iblk, V, idx2]

theorem iblk3_whole (c : Dev nD) (t : Fin cfg0.N) :
    (iblk m c 3 t : Vec Ideal S32768x40 .f32) = m ((c.tc : Thread nD τ).loc main_arg3) := by
  funext y
  blk_ext [iblk, V, idx3]

theorem iblk4_whole (c : Dev nD) (t : Fin cfg0.N) : (iblk m c 4 t : Vec Ideal S32768x1 .f32) = V m c main_v34 := by
  funext y
  blk_simp [iblk]
  refine congrArg (V m c main_v34 : Vec Ideal S32768x1 .f32) (funext fun a => Fin.ext ?_)
  match a with
  | 0 => blk_simp [idx4]
  | 1 => blk_simp [idx4]

/-- The code at `y` of a whole array of codes. -/
theorem code_at (X : Vec Ideal S32768x5120 .fp8e5m2) (g s : Vec Ideal S32768x1 .f32) (hs : ∀ R : Fin 32768, 0 ≤ s (ix2 R 0))
    (y : S32768x5120.Idx) (R : Fin 32768) (J : Fin 5120) (hR : R.val = (y 0).val) (hJ : J.val = (y 1).val) :
    k0_pay6 X g s y = rowCode (g (ix2 R 0)) (s (ix2 R 0)) (fun k => X (ix2 R k)) J := by
  have e : y = ix2 R J := by
    refine funext fun a => Fin.ext ?_
    match a with
    | 0 => exact hR.symm
    | 1 => exact hJ.symm
  exact (congrArg _ e).trans (code_apply X g s R (hs R) J)

theorem scale_at (X : Vec Ideal S32768x5120 .fp8e5m2) (g s : Vec Ideal S32768x1 .f32) (hs : ∀ R : Fin 32768, 0 ≤ s (ix2 R 0))
    (y : S32768x40.Idx) (R : Fin 32768) (B : Fin 40) (hR : R.val = (y 0).val) (hB : B.val = (y 1).val) :
    k0_pay1 (k0_pay5 X g s) y = rowScale (g (ix2 R 0)) (s (ix2 R 0)) (fun k => X (ix2 R k)) B := by
  have e : y = ix2 R B := by
    refine funext fun a => Fin.ext ?_
    match a with
    | 0 => exact hR.symm
    | 1 => exact hB.symm
  exact (congrArg _ e).trans (scale_apply X g s R (hs R) B)

theorem dot_at (X : FVec Ideal S32768x5120 .fp8e5m2) (Y : Vec Ideal S32768x5120 .fp8e4m3) (E : Vec Ideal S32768x40 .f32)
    (h0 : ∀ (R : Fin 32768) (b : Fin 40), 0 ≤ E (ix2 R b)) (ht : ∀ (R : Fin 32768) (b : Fin 40), E (ix2 R b) ≠ ⊤)
    (y : S32768x1.Idx) (R : Fin 32768) (hR : R.val = (y 0).val) :
    k0_pay2 (k0_pay3 X) Y E y = rowDot (fun k => X (ix2 R k)) (fun k => Y (ix2 R k)) fun b => E (ix2 R b) := by
  have e : y = ix2 R 0 := by
    refine funext fun a => Fin.ext ?_
    match a with
    | 0 => exact hR.symm
    | 1 => exact Nat.lt_one_iff.mp (y 1).isLt
  exact (congrArg _ e).trans (dot_apply X Y E R (h0 R) (ht R))

theorem arr5 (c : Dev nD) (hs : ∀ R : Fin 32768, (0 : EReal) ≤ (V m c main_v33 : Vec Ideal S32768x1 .f32) (ix2 R 0)) :
    ((dats m 0 c).arrAt 5 (cfgs 0).N : Vec Ideal S32768x5120 .fp8e5m2) = fun y =>
      rowCode ((V m c main_v34 : Vec Ideal S32768x1 .f32) (ix2 (y 0) 0)) ((V m c main_v33 : Vec Ideal S32768x1 .f32) (ix2 (y 0) 0))
        (fun k => (V m c main_v32 : Vec Ideal S32768x5120 .fp8e5m2) (ix2 (y 0) k)) (y 1) := by
  refine (dats m 0 c).arrAt_eq_of_covers 5 _ (by decide +kernel) fun t hf y => ?_
  blk_simp
  rw [after0_5]
  frame_out
  rw [iblk0_whole, iblk1_whole, iblk4_whole]
  exact code_at (V m c main_v32) (V m c main_v34) (V m c main_v33) hs y _ _ (by blk_simp [idx5]) (by blk_simp [idx5])

theorem arr6 (c : Dev nD) (hs : ∀ R : Fin 32768, (0 : EReal) ≤ (V m c main_v33 : Vec Ideal S32768x1 .f32) (ix2 R 0)) :
    ((dats m 0 c).arrAt 6 (cfgs 0).N : Vec Ideal S32768x40 .f32) = fun y =>
      rowScale ((V m c main_v34 : Vec Ideal S32768x1 .f32) (ix2 (y 0) 0)) ((V m c main_v33 : Vec Ideal S32768x1 .f32) (ix2 (y 0) 0))
        (fun k => (V m c main_v32 : Vec Ideal S32768x5120 .fp8e5m2) (ix2 (y 0) k)) (y 1) := by
  refine (dats m 0 c).arrAt_eq_of_covers 6 _ (by decide +kernel) fun t hf y => ?_
  blk_simp
  rw [after0_6]
  frame_out
  rw [iblk0_whole, iblk1_whole, iblk4_whole]
  exact scale_at (V m c main_v32) (V m c main_v34) (V m c main_v33) hs y _ _ (by blk_simp [idx6]) (by blk_simp [idx6])

theorem arr7 (c : Dev nD)
    (h0 : ∀ (R : Fin 32768) (b : Fin 40), (0 : EReal) ≤ (m ((c.tc : Thread nD τ).loc main_arg3) : Vec Ideal S32768x40 .f32) (ix2 R b))
    (ht : ∀ (R : Fin 32768) (b : Fin 40), (m ((c.tc : Thread nD τ).loc main_arg3) : Vec Ideal S32768x40 .f32) (ix2 R b) ≠ (⊤ : EReal)) :
    ((dats m 0 c).arrAt 7 (cfgs 0).N : Vec Ideal S32768x1 .f32) = fun y =>
      rowDot (fun k => (V m c main_v32 : Vec Ideal S32768x5120 .fp8e5m2) (ix2 (y 0) k))
        (fun k => (m ((c.tc : Thread nD τ).loc main_arg2) : Vec Ideal S32768x5120 .fp8e4m3) (ix2 (y 0) k))
        (fun b => (m ((c.tc : Thread nD τ).loc main_arg3) : Vec Ideal S32768x40 .f32) (ix2 (y 0) b)) := by
  refine (dats m 0 c).arrAt_eq_of_covers 7 _ (by decide +kernel) fun t hf y => ?_
  blk_simp
  rw [after0_7]
  frame_out
  rw [iblk0_whole, iblk2_whole, iblk3_whole]
  exact dot_at (V m c main_v32) (m ((c.tc : Thread nD τ).loc main_arg2)) (m ((c.tc : Thread nD τ).loc main_arg3)) h0 ht y _ (by blk_simp [idx7])

end Cert.ReferenceIdeal.Gen
end
-- ==== Proof.Equation.lean ====
module

public import proofs.«01_k».proof.Proof.Prefix
public import proofs.«01_k».proof.Proof.Premise
public import proofs.«01_k».proof.Proof.Arrays
public import proofs.«01_k».proof.Proof.ReferenceArrays
public import Idealize.ShloMosaic.Lib.Pipeline.ValueKit

@[expose] public section

set_option maxRecDepth 16384

namespace Cert.Proof
open Idealize.ShloMosaic Idealize.ShloMosaic.TcCoe Idealize.ShloMosaic.Tactic
open Idealize.ShloMosaic.Pipeline
open Cert.KernelIdeal.Gen (rowCode rowScale rowDot slabRow)

/-! # The arrays of the kernel and of the reference are equal -/

/-- A value per row, laid out in slabs of 256 lanes or as a column, is the same flat array. -/
theorem flat_rows (X : Fin 32768 → EReal) :
    (shapeCast Cert.KernelIdeal.S32768 (fun y => X (slabRow (y 0) (y 2)) : Vec Ideal Cert.KernelIdeal.S128x1x256 .f32)
        Cert.KernelIdeal.Gen.facts.shapeCasts_S128x1x256_S32768 : Vec Ideal Cert.KernelIdeal.S32768 .f32)
      = shapeCast Cert.ReferenceIdeal.S32768 (fun y => X (y 0) : Vec Ideal Cert.ReferenceIdeal.S32768x1 .f32)
        Cert.ReferenceIdeal.Gen.facts.shapeCasts_S32768x1_S32768 := by
  funext i
  pointwise
  refine congrArg X (Fin.ext ?_)
  show (i 0).val / 256 * 256 + (i 0).val % 256 = (i 0).val
  omega

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same six arguments on device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m'}
variable (h : @Cert.Pre_KernelIdeal_nonnegative_scales Cert.Pre_nonnegative_scales.Gen.facts m) (c : Dev Cert.KernelIdeal.nD) (ha : Agree m m' c)
include h ha

theorem reference_scale_nonneg (R : Fin 32768) :
    (0 : EReal) ≤ (Cert.ReferenceIdeal.Gen.V m' c Cert.ReferenceIdeal.main_v33 : Vec Ideal Cert.KernelIdeal.S32768x1 .f32) (ix2 R 0) := by
  rw [gathered_scale m m' c ha.2.1 ha.2.2.2.2.2 R]
  exact scale_nonneg m c (premise m h c).1 R

theorem codes_equal :
    ((Cert.ReferenceIdeal.Gen.dats m' 0 c).arrAt 5 (Cert.ReferenceIdeal.cfgs 0).N : Vec Ideal Cert.KernelIdeal.S32768x5120 .fp8e5m2)
      = (Cert.KernelIdeal.Gen.dats m 0 c).arrAt 6 (Cert.KernelIdeal.cfgs 0).N := by
  refine (Cert.ReferenceIdeal.Gen.arr5 m' c (reference_scale_nonneg h c ha)).trans (Eq.trans ?_ (Cert.KernelIdeal.Gen.arr6 m c).symm)
  funext y
  have e1 := gathered_gates m m' c ha.2.2.2.2.1 ha.2.2.2.2.2 (y 0)
  have e2 := gathered_scale m m' c ha.2.1 ha.2.2.2.2.2 (y 0)
  have e3 := gathered_codes m m' c ha.1 ha.2.2.2.2.2
  exact congr (congr (congr (congrArg rowCode e1) e2) (funext fun k => congrFun e3 (ix2 (y 0) k))) rfl

theorem scales_equal :
    ((Cert.ReferenceIdeal.Gen.dats m' 0 c).arrAt 6 (Cert.ReferenceIdeal.cfgs 0).N : Vec Ideal Cert.KernelIdeal.S32768x40 .f32)
      = transpose Cert.KernelIdeal.S32768x40 [1, 0] ((Cert.KernelIdeal.Gen.dats m 0 c).arrAt 7 (Cert.KernelIdeal.cfgs 0).N : Vec Ideal Cert.KernelIdeal.S40x32768 .f32)
          Cert.KernelIdeal.Gen.facts.transposes_S40x32768_S32768x40_1_0 := by
  refine (Cert.ReferenceIdeal.Gen.arr6 m' c (reference_scale_nonneg h c ha)).trans
    (Eq.trans ?_ (congrArg (fun X => transpose Cert.KernelIdeal.S32768x40 [1, 0] X Cert.KernelIdeal.Gen.facts.transposes_S40x32768_S32768x40_1_0)
      (Cert.KernelIdeal.Gen.arr7 m c).symm))
  funext y
  have e1 := gathered_gates m m' c ha.2.2.2.2.1 ha.2.2.2.2.2 (y 0)
  have e2 := gathered_scale m m' c ha.2.1 ha.2.2.2.2.2 (y 0)
  have e3 := gathered_codes m m' c ha.1 ha.2.2.2.2.2
  refine (congr (congr (congr (congrArg rowScale e1) e2) (funext fun k => congrFun e3 (ix2 (y 0) k))) rfl).trans ?_
  rfl

theorem products_equal :
    (shapeCast Cert.KernelIdeal.S32768 ((Cert.ReferenceIdeal.Gen.dats m' 0 c).arrAt 7 (Cert.ReferenceIdeal.cfgs 0).N : Vec Ideal Cert.ReferenceIdeal.S32768x1 .f32)
        Cert.ReferenceIdeal.Gen.facts.shapeCasts_S32768x1_S32768 : Vec Ideal Cert.KernelIdeal.S32768 .f32)
      = shapeCast Cert.KernelIdeal.S32768 ((Cert.KernelIdeal.Gen.dats m 0 c).arrAt 8 (Cert.KernelIdeal.cfgs 0).N : Vec Ideal Cert.KernelIdeal.S128x1x256 .f32)
          Cert.KernelIdeal.Gen.facts.shapeCasts_S128x1x256_S32768 := by
  obtain ⟨_, p0, pt⟩ := premise m h c
  have e3 := gathered_codes m m' c ha.1 ha.2.2.2.2.2
  have a2 : (m' ((c.tc : Thread Cert.ReferenceIdeal.nD Cert.ReferenceIdeal.τ).loc Cert.ReferenceIdeal.main_arg2) : Vec Ideal Cert.KernelIdeal.S32768x5120 .fp8e4m3) = m ((c.tc : Thread Cert.KernelIdeal.nD Cert.KernelIdeal.τ).loc Cert.KernelIdeal.main_arg2) := ha.2.2.1
  have a3 : (m' ((c.tc : Thread Cert.ReferenceIdeal.nD Cert.ReferenceIdeal.τ).loc Cert.ReferenceIdeal.main_arg3) : Vec Ideal Cert.KernelIdeal.S32768x40 .f32) = m ((c.tc : Thread Cert.KernelIdeal.nD Cert.KernelIdeal.τ).loc Cert.KernelIdeal.main_arg3) := ha.2.2.2.1
  have E := Cert.ReferenceIdeal.Gen.arr7 m' c (fun R b => le_of_le_of_eq (p0 (ix2 R b)) (congrFun a3 _).symm)
    (fun R b hb => pt (ix2 R b) ((congrFun a3 _).symm.trans hb))
  rw [E, Cert.KernelIdeal.Gen.arr8 m c, a2, a3, e3]
  exact (flat_rows fun R => rowDot (fun k => (Cert.KernelIdeal.Gen.V m c Cert.KernelIdeal.main_v32 : Vec Ideal Cert.KernelIdeal.S32768x5120 .fp8e5m2) (ix2 R k))
      (fun k => (m ((c.tc : Thread Cert.KernelIdeal.nD Cert.KernelIdeal.τ).loc Cert.KernelIdeal.main_arg2) : Vec Ideal Cert.KernelIdeal.S32768x5120 .fp8e4m3) (ix2 R k))
      (fun b => (m ((c.tc : Thread Cert.KernelIdeal.nD Cert.KernelIdeal.τ).loc Cert.KernelIdeal.main_arg3) : Vec Ideal Cert.KernelIdeal.S32768x40 .f32) (ix2 R b))).symm

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_nonnegative_scales
public import proofs.«01_k».proof.Proof.Ends
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The idealized kernel and the reference end with equal results, from memories that hold the same arguments. -/
theorem algebraic : @Cert.algebraic_KernelIdeal_ReferenceIdeal_pre_nonnegative_scales
    Cert.KernelIdeal.Gen.facts Cert.ReferenceIdeal.Gen.facts Cert.Pre_nonnegative_scales.Gen.facts := by
  intro m g m' g' hpre hagree
  refine ⟨fun c => (Cert.KernelIdeal.Gen.dats m 0 c).arrAt 6 (Cert.KernelIdeal.cfgs 0).N,
    fun c => transpose Cert.KernelIdeal.S32768x40 [1, 0]
      ((Cert.KernelIdeal.Gen.dats m 0 c).arrAt 7 (Cert.KernelIdeal.cfgs 0).N : Vec Ideal Cert.KernelIdeal.S40x32768 .f32)
      Cert.KernelIdeal.Gen.facts.transposes_S40x32768_S32768x40_1_0,
    fun c => Cert.KernelIdeal.Gen.gateGrad
      (shapeCast Cert.KernelIdeal.S32768 ((Cert.KernelIdeal.Gen.dats m 0 c).arrAt 8 (Cert.KernelIdeal.cfgs 0).N : Vec Ideal Cert.KernelIdeal.S128x1x256 .f32)
        Cert.KernelIdeal.Gen.facts.shapeCasts_S128x1x256_S32768)
      (shapeCast Cert.KernelIdeal.S32768 (m ((c.tc : Thread Cert.KernelIdeal.nD Cert.KernelIdeal.τ).loc Cert.KernelIdeal.main_arg5) : IVec Cert.KernelIdeal.S32768x1 32)
        Cert.KernelIdeal.Gen.facts.shapeCasts_S32768x1_S32768)
      (m ((c.tc : Thread Cert.KernelIdeal.nD Cert.KernelIdeal.τ).loc Cert.KernelIdeal.main_arg1) : Vec Ideal Cert.KernelIdeal.S32768 .f32),
    (θ_run _ _ _).mono (fun r hr c => ?_)
      (θ_run_and (Cert.KernelIdeal.Gen.run_main m g) (Cert.KernelIdeal.Gen.unchanged m g)),
    (θ_run _ _ _).mono (fun r hr c => ?_)
      (θ_run_and (Cert.ReferenceIdeal.Gen.run_main m' g') (Cert.ReferenceIdeal.Gen.unchanged m' g'))⟩
  · obtain ⟨e0, e1, e2⟩ := Cert.KernelIdeal.Gen.ends m hr.1 c
    exact ⟨e0, e1, e2, hr.2 c⟩
  · obtain ⟨e0, e1, e2⟩ := Cert.ReferenceIdeal.Gen.ends m' hr.1 c
    have ha : Agree m m' c := hagree c
    refine ⟨e0.trans (codes_equal hpre c ha), e1.trans (scales_equal hpre c ha), e2.trans ?_, hr.2 c⟩
    have a1 := ha.2.1
    have a5 := ha.2.2.2.2.2
    exact congr (congr (congrArg Cert.KernelIdeal.Gen.gateGrad (products_equal hpre c ha))
      (congrArg (fun X : IVec Cert.KernelIdeal.S32768x1 32 => shapeCast Cert.KernelIdeal.S32768 X Cert.KernelIdeal.Gen.facts.shapeCasts_S32768x1_S32768) a5)) a1

theorem claim : Cert.Claim := ⟨Cert.Kernel.Gen.facts, Cert.KernelIdeal.Gen.facts, Cert.ReferenceIdeal.Gen.facts, Cert.Pre_nonnegative_scales.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
